-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x100000 : Shape := ⟨3, ![64, 8, 100000]⟩
abbrev S512x100000 : Shape := ⟨2, ![512, 100000]⟩
abbrev S512x1 : Shape := ⟨2, ![512, 1]⟩
abbrev S32x50688 : Shape := ⟨2, ![32, 50688]⟩
abbrev S32x1 : Shape := ⟨2, ![32, 1]⟩
abbrev S32x512 : Shape := ⟨2, ![32, 512]⟩
abbrev S32x1024 : Shape := ⟨2, ![32, 1024]⟩
abbrev S32 : Shape := ⟨1, ![32]⟩
abbrev S64x8 : Shape := ⟨2, ![64, 8]⟩

abbrev nBuf : Space → Nat
  | .hbm => 4
  | .vmem => 10
  | .smem => 0
  | _ => 0

abbrev bufTy : (tb : Table) → Fin (tcTables nBuf tb) → BufTy
  | .hbm, ⟨0, _⟩ => ⟨S64x8x100000, .f32⟩
  | .hbm, ⟨1, _⟩ => ⟨S512x100000, .f32⟩
  | .hbm, ⟨2, _⟩ => ⟨S512x1, .i32⟩
  | .hbm, ⟨3, _⟩ => ⟨S64x8, .i32⟩
  | .local _ .vmem, ⟨0, _⟩ => ⟨S32x50688, .f32⟩
  | .local _ .vmem, ⟨1, _⟩ => ⟨S32x50688, .f32⟩
  | .local _ .vmem, ⟨2, _⟩ => ⟨S32x1, .i32⟩
  | .local _ .vmem, ⟨3, _⟩ => ⟨S32x1, .i32⟩
  | .local _ .vmem, ⟨4, _⟩ => ⟨S32x512, .f32⟩
  | .local _ .vmem, ⟨5, _⟩ => ⟨S32x512, .i32⟩
  | .local _ .vmem, ⟨6, _⟩ => ⟨S32x512, .i32⟩
  | .local _ .vmem, ⟨7, _⟩ => ⟨S32x512, .i32⟩
  | .local _ .vmem, ⟨8, _⟩ => ⟨S32x512, .f32⟩
  | .local _ .vmem, ⟨9, _⟩ => ⟨S32x1024, .f32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32_8615 : BitVec 32 := 1#32
  let v21491 : BitVec 1 := Scalar.cmpi .eq arg1 c1_i32_8615
  let v21492 : BitVec 32 := Scalar.extui v21491
  let c0_i32_8616 : BitVec 32 := 0#32
  let v21493 : BitVec 1 := Scalar.cmpi .ne v21492 c0_i32_8616
  v21493

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x50688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S64x8x100000 : Shape := ⟨3, ![64, 8, 100000]⟩
abbrev S_ : Shape := ⟨0, ![]⟩
abbrev S64x8 : Shape := ⟨2, ![64, 8]⟩

abbrev nBuf : Space → Nat
  | .hbm => 273
  | .vmem => 0
  | .smem => 0
  | _ => 0

abbrev hbmTy0_0 (i : Nat) : BufTy := match i % 128 with
  | 0 => ⟨S64x8x100000, .f32⟩
  | 1 => ⟨S_, .f32⟩
  | 2 => ⟨S64x8x100000, .f32⟩
  | 3 => ⟨S64x8x100000, .f32⟩
  | 4 => ⟨S64x8x100000, .i32⟩
  | 5 => ⟨S64x8x100000, .i32⟩
  | 6 => ⟨S64x8x100000, .i32⟩
  | 7 => ⟨S_, .i32⟩
  | 8 => ⟨S64x8x100000, .i32⟩
  | 9 => ⟨S64x8x100000, .i32⟩
  | 10 => ⟨S64x8x100000, .i32⟩
  | 11 => ⟨S_, .i32⟩
  | 12 => ⟨S64x8x100000, .i32⟩
  | 13 => ⟨S64x8x100000, .i32⟩
  | 14 => ⟨S64x8x100000, .i32⟩
  | 15 => ⟨S_, .i32⟩
  | 16 => ⟨S64x8x100000, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S64x8x100000, .i32⟩
  | 24 => ⟨S64x8x100000, .i32⟩
  | 25 => ⟨S_, .i32⟩
  | 26 => ⟨S64x8x100000, .i32⟩
  | 27 => ⟨S64x8x100000, .i32⟩
  | 28 => ⟨S64x8x100000, .i32⟩
  | 29 => ⟨S_, .i32⟩
  | 30 => ⟨S64x8x100000, .i32⟩
  | 31 => ⟨S64x8x100000, .i32⟩
  | 32 => ⟨S_, .i32⟩
  | 33 => ⟨S64x8x100000, .i32⟩
  | 34 => ⟨S64x8x100000, .i32⟩
  | 35 => ⟨S64x8x100000, .i32⟩
  | 36 => ⟨S64x8x100000, .i32⟩
  | 37 => ⟨S64x8x100000, .i32⟩
  | 38 => ⟨S_, .i32⟩
  | 39 => ⟨S64x8x100000, .i32⟩
  | 40 => ⟨S64x8x100000, .i32⟩
  | 41 => ⟨S_, .i32⟩
  | 42 => ⟨S64x8x100000, .i32⟩
  | 43 => ⟨S64x8x100000, .i32⟩
  | 44 => ⟨S64x8x100000, .i32⟩
  | 45 => ⟨S64x8x100000, .i32⟩
  | 46 => ⟨S64x8x100000, .i32⟩
  | 47 => ⟨S_, .i32⟩
  | 48 => ⟨S64x8x100000, .i32⟩
  | 49 => ⟨S64x8x100000, .i32⟩
  | 50 => ⟨S_, .i32⟩
  | 51 => ⟨S64x8x100000, .i32⟩
  | 52 => ⟨S64x8x100000, .i32⟩
  | 53 => ⟨S64x8x100000, .i32⟩
  | 54 => ⟨S64x8x100000, .i32⟩
  | 55 => ⟨S64x8x100000, .i32⟩
  | 56 => ⟨S_, .i32⟩
  | 57 => ⟨S64x8x100000, .i32⟩
  | 58 => ⟨S64x8x100000, .i32⟩
  | 59 => ⟨S_, .i32⟩
  | 60 => ⟨S64x8x100000, .i32⟩
  | 61 => ⟨S64x8x100000, .i32⟩
  | 62 => ⟨S64x8x100000, .i32⟩
  | 63 => ⟨S64x8x100000, .i32⟩
  | 64 => ⟨S_, .i32⟩
  | 65 => ⟨S64x8x100000, .i32⟩
  | 66 => ⟨S64x8x100000, .i32⟩
  | 67 => ⟨S64x8x100000, .i32⟩
  | 68 => ⟨S64x8x100000, .i32⟩
  | 69 => ⟨S_, .i32⟩
  | 70 => ⟨S64x8x100000, .i32⟩
  | 71 => ⟨S64x8x100000, .i32⟩
  | 72 => ⟨S64x8x100000, .i32⟩
  | 73 => ⟨S_, .i32⟩
  | 74 => ⟨S64x8x100000, .i32⟩
  | 75 => ⟨S64x8x100000, .i32⟩
  | 76 => ⟨S_, .i32⟩
  | 77 => ⟨S64x8x100000, .i32⟩
  | 78 => ⟨S64x8x100000, .i32⟩
  | 79 => ⟨S64x8x100000, .i32⟩
  | 80 => ⟨S64x8x100000, .i32⟩
  | 81 => ⟨S64x8x100000, .i32⟩
  | 82 => ⟨S_, .i32⟩
  | 83 => ⟨S64x8x100000, .i32⟩
  | 84 => ⟨S64x8x100000, .i32⟩
  | 85 => ⟨S_, .i32⟩
  | 86 => ⟨S64x8x100000, .i32⟩
  | 87 => ⟨S64x8x100000, .i32⟩
  | 88 => ⟨S64x8x100000, .i32⟩
  | 89 => ⟨S64x8x100000, .i32⟩
  | 90 => ⟨S64x8x100000, .i32⟩
  | 91 => ⟨S_, .i32⟩
  | 92 => ⟨S64x8x100000, .i32⟩
  | 93 => ⟨S64x8x100000, .i32⟩
  | 94 => ⟨S_, .i32⟩
  | 95 => ⟨S64x8x100000, .i32⟩
  | 96 => ⟨S64x8x100000, .i32⟩
  | 97 => ⟨S64x8x100000, .i32⟩
  | 98 => ⟨S64x8x100000, .i32⟩
  | 99 => ⟨S64x8x100000, .i32⟩
  | 100 => ⟨S_, .i32⟩
  | 101 => ⟨S64x8x100000, .i32⟩
  | 102 => ⟨S64x8x100000, .i32⟩
  | 103 => ⟨S_, .i32⟩
  | 104 => ⟨S64x8x100000, .i32⟩
  | 105 => ⟨S64x8x100000, .i32⟩
  | 106 => ⟨S64x8x100000, .i32⟩
  | 107 => ⟨S64x8x100000, .i32⟩
  | 108 => ⟨S64x8x100000, .i32⟩
  | 109 => ⟨S64x8x100000, .i32⟩
  | 110 => ⟨S_, .i32⟩
  | 111 => ⟨S64x8x100000, .i32⟩
  | 112 => ⟨S64x8x100000, .i32⟩
  | 113 => ⟨S_, .i32⟩
  | 114 => ⟨S64x8x100000, .i32⟩
  | 115 => ⟨S64x8x100000, .i32⟩
  | 116 => ⟨S64x8x100000, .i32⟩
  | 117 => ⟨S_, .i32⟩
  | 118 => ⟨S64x8x100000, .i32⟩
  | 119 => ⟨S64x8x100000, .i32⟩
  | 120 => ⟨S_, .i32⟩
  | 121 => ⟨S64x8x100000, .i32⟩
  | 122 => ⟨S64x8x100000, .i32⟩
  | 123 => ⟨S64x8x100000, .i32⟩
  | 124 => ⟨S64x8x100000, .i32⟩
  | 125 => ⟨S64x8x100000, .i32⟩
  | 126 => ⟨S_, .i32⟩
  | 127 => ⟨S64x8x100000, .i32⟩
  | _ => ⟨S64x8x100000, .f32⟩

abbrev hbmTy0_1 (i : Nat) : BufTy := match i % 128 with
  | 0 => ⟨S64x8x100000, .i32⟩
  | 1 => ⟨S_, .i32⟩
  | 2 => ⟨S64x8x100000, .i32⟩
  | 3 => ⟨S64x8x100000, .i32⟩
  | 4 => ⟨S64x8x100000, .i32⟩
  | 5 => ⟨S64x8x100000, .i32⟩
  | 6 => ⟨S64x8x100000, .i32⟩
  | 7 => ⟨S_, .i32⟩
  | 8 => ⟨S64x8x100000, .i32⟩
  | 9 => ⟨S64x8x100000, .i32⟩
  | 10 => ⟨S_, .i32⟩
  | 11 => ⟨S64x8x100000, .i32⟩
  | 12 => ⟨S64x8x100000, .i32⟩
  | 13 => ⟨S64x8x100000, .i32⟩
  | 14 => ⟨S64x8x100000, .i32⟩
  | 15 => ⟨S64x8x100000, .i32⟩
  | 16 => ⟨S_, .i32⟩
  | 17 => ⟨S64x8x100000, .i32⟩
  | 18 => ⟨S64x8x100000, .i32⟩
  | 19 => ⟨S_, .i32⟩
  | 20 => ⟨S64x8x100000, .i32⟩
  | 21 => ⟨S64x8x100000, .i32⟩
  | 22 => ⟨S64x8x100000, .i32⟩
  | 23 => ⟨S64x8x100000, .i32⟩
  | 24 => ⟨S_, .i32⟩
  | 25 => ⟨S64x8x100000, .i32⟩
  | 26 => ⟨S64x8x100000, .i32⟩
  | 27 => ⟨S_, .i32⟩
  | 28 => ⟨S64x8x100000, .i32⟩
  | 29 => ⟨S64x8x100000, .i32⟩
  | 30 => ⟨S_, .i32⟩
  | 31 => ⟨S64x8x100000, .i32⟩
  | 32 => ⟨S64x8x100000, .i32⟩
  | 33 => ⟨S64x8x100000, .i32⟩
  | 34 => ⟨S_, .i32⟩
  | 35 => ⟨S64x8x100000, .i32⟩
  | 36 => ⟨S64x8x100000, .i32⟩
  | 37 => ⟨S_, .i32⟩
  | 38 => ⟨S64x8x100000, .i32⟩
  | 39 => ⟨S64x8x100000, .i32⟩
  | 40 => ⟨S64x8x100000, .i32⟩
  | 41 => ⟨S64x8x100000, .i32⟩
  | 42 => ⟨S64x8x100000, .i32⟩
  | 43 => ⟨S_, .i32⟩
  | 44 => ⟨S64x8x100000, .i32⟩
  | 45 => ⟨S64x8x100000, .i32⟩
  | 46 => ⟨S_, .i32⟩
  | 47 => ⟨S64x8x100000, .i32⟩
  | 48 => ⟨S64x8x100000, .i32⟩
  | 49 => ⟨S64x8x100000, .i32⟩
  | 50 => ⟨S64x8x100000, .i32⟩
  | 51 => ⟨S64x8x100000, .i32⟩
  | 52 => ⟨S_, .i32⟩
  | 53 => ⟨S64x8x100000, .i32⟩
  | 54 => ⟨S64x8x100000, .i32⟩
  | 55 => ⟨S_, .i32⟩
  | 56 => ⟨S64x8x100000, .i32⟩
  | 57 => ⟨S64x8x100000, .i32⟩
  | 58 => ⟨S64x8x100000, .i32⟩
  | 59 => ⟨S64x8x100000, .i32⟩
  | 60 => ⟨S64x8x100000, .i32⟩
  | 61 => ⟨S_, .i32⟩
  | 62 => ⟨S64x8x100000, .i32⟩
  | 63 => ⟨S64x8x100000, .i32⟩
  | 64 => ⟨S_, .i32⟩
  | 65 => ⟨S64x8x100000, .i32⟩
  | 66 => ⟨S64x8x100000, .i32⟩
  | 67 => ⟨S64x8x100000, .i32⟩
  | 68 => ⟨S64x8x100000, .i32⟩
  | 69 => ⟨S_, .i32⟩
  | 70 => ⟨S64x8x100000, .i32⟩
  | 71 => ⟨S64x8x100000, .i32⟩
  | 72 => ⟨S64x8x100000, .i32⟩
  | 73 => ⟨S64x8x100000, .i32⟩
  | 74 => ⟨S_, .i32⟩
  | 75 => ⟨S64x8x100000, .i32⟩
  | 76 => ⟨S64x8x100000, .i32⟩
  | 77 => ⟨S64x8x100000, .i32⟩
  | 78 => ⟨S_, .i32⟩
  | 79 => ⟨S64x8x100000, .i32⟩
  | 80 => ⟨S64x8x100000, .i32⟩
  | 81 => ⟨S_, .i32⟩
  | 82 => ⟨S64x8x100000, .i32⟩
  | 83 => ⟨S64x8x100000, .i32⟩
  | 84 => ⟨S64x8x100000, .i32⟩
  | 85 => ⟨S64x8x100000, .i32⟩
  | 86 => ⟨S64x8x100000, .i32⟩
  | 87 => ⟨S_, .i32⟩
  | 88 => ⟨S64x8x100000, .i32⟩
  | 89 => ⟨S64x8x100000, .i32⟩
  | 90 => ⟨S_, .i32⟩
  | 91 => ⟨S64x8x100000, .i32⟩
  | 92 => ⟨S64x8x100000, .i32⟩
  | 93 => ⟨S64x8x100000, .i32⟩
  | 94 => ⟨S64x8x100000, .i32⟩
  | 95 => ⟨S64x8x100000, .i32⟩
  | 96 => ⟨S_, .i32⟩
  | 97 => ⟨S64x8x100000, .i32⟩
  | 98 => ⟨S64x8x100000, .i32⟩
  | 99 => ⟨S_, .i32⟩
  | 100 => ⟨S64x8x100000, .i32⟩
  | 101 => ⟨S64x8x100000, .i32⟩
  | 102 => ⟨S64x8x100000, .i32⟩
  | 103 => ⟨S64x8x100000, .i32⟩
  | 104 => ⟨S64x8x100000, .i32⟩
  | 105 => ⟨S_, .i32⟩
  | 106 => ⟨S64x8x100000, .i32⟩
  | 107 => ⟨S64x8x100000, .i32⟩
  | 108 => ⟨S_, .i32⟩
  | 109 => ⟨S64x8x100000, .i32⟩
  | 110 => ⟨S64x8x100000, .i32⟩
  | 111 => ⟨S64x8x100000, .i32⟩
  | 112 => ⟨S64x8x100000, .i32⟩
  | 113 => ⟨S64x8x100000, .i32⟩
  | 114 => ⟨S64x8x100000, .i32⟩
  | 115 => ⟨S_, .i32⟩
  | 116 => ⟨S64x8x100000, .i32⟩
  | 117 => ⟨S64x8x100000, .i32⟩
  | 118 => ⟨S_, .i32⟩
  | 119 => ⟨S64x8x100000, .i32⟩
  | 120 => ⟨S64x8x100000, .i32⟩
  | 121 => ⟨S64x8x100000, .i32⟩
  | 122 => ⟨S_, .i32⟩
  | 123 => ⟨S64x8x100000, .i32⟩
  | 124 => ⟨S64x8x100000, .i32⟩
  | 125 => ⟨S_, .i32⟩
  | 126 => ⟨S64x8x100000, .i32⟩
  | 127 => ⟨S64x8x100000, .i32⟩
  | _ => ⟨S64x8x100000, .f32⟩

abbrev hbmTy0_2 (i : Nat) : BufTy := match i % 128 with
  | 0 => ⟨S64x8x100000, .f32⟩
  | 1 => ⟨S_, .f32⟩
  | 2 => ⟨S64x8x100000, .f32⟩
  | 3 => ⟨S64x8x100000, .f32⟩
  | 4 => ⟨S_, .f32⟩
  | 5 => ⟨S64x8x100000, .f32⟩
  | 6 => ⟨S64x8x100000, .f32⟩
  | 7 => ⟨S64x8x100000, .f32⟩
  | 8 => ⟨S64x8x100000, .f32⟩
  | 9 => ⟨S64x8x100000, .f32⟩
  | 10 => ⟨S64x8x100000, .f32⟩
  | 11 => ⟨S64x8x100000, .f32⟩
  | 12 => ⟨S64x8x100000, .i32⟩
  | 13 => ⟨S_, .f32⟩
  | 14 => ⟨S_, .i32⟩
  | 15 => ⟨S64x8, .f32⟩
  | 16 => ⟨S64x8, .i32⟩
  | _ => ⟨S64x8x100000, .f32⟩

abbrev hbmTy (i : Nat) : BufTy := match i / 128 with
  | 0 => hbmTy0_0 i
  | 1 => hbmTy0_1 i
  | 2 => hbmTy0_2 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_c_2 : Ref sig .tc := ⟨.hbm, 17, rfl⟩
abbrev main_c_3 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_c_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_7 : Ref sig .tc := ⟨.hbm, 29, rfl⟩
abbrev main_v19 : Ref sig .tc := ⟨.hbm, 30, rfl⟩
abbrev main_v20 : Ref sig .tc := ⟨.hbm, 31, rfl⟩
abbrev main_c_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_9 : Ref sig .tc := ⟨.hbm, 38, rfl⟩
abbrev main_v26 : Ref sig .tc := ⟨.hbm, 39, rfl⟩
abbrev main_v27 : Ref sig .tc := ⟨.hbm, 40, rfl⟩
abbrev main_c_10 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_11 : Ref sig .tc := ⟨.hbm, 47, rfl⟩
abbrev main_v33 : Ref sig .tc := ⟨.hbm, 48, rfl⟩
abbrev main_v34 : Ref sig .tc := ⟨.hbm, 49, rfl⟩
abbrev main_c_12 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_13 : Ref sig .tc := ⟨.hbm, 56, rfl⟩
abbrev main_v40 : Ref sig .tc := ⟨.hbm, 57, rfl⟩
abbrev main_v41 : Ref sig .tc := ⟨.hbm, 58, rfl⟩
abbrev main_c_14 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_15 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_17 : Ref sig .tc := ⟨.hbm, 73, rfl⟩
abbrev main_v53 : Ref sig .tc := ⟨.hbm, 74, rfl⟩
abbrev main_v54 : Ref sig .tc := ⟨.hbm, 75, rfl⟩
abbrev main_c_18 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_19 : Ref sig .tc := ⟨.hbm, 82, rfl⟩
abbrev main_v60 : Ref sig .tc := ⟨.hbm, 83, rfl⟩
abbrev main_v61 : Ref sig .tc := ⟨.hbm, 84, rfl⟩
abbrev main_c_20 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_21 : Ref sig .tc := ⟨.hbm, 91, rfl⟩
abbrev main_v67 : Ref sig .tc := ⟨.hbm, 92, rfl⟩
abbrev main_v68 : Ref sig .tc := ⟨.hbm, 93, rfl⟩
abbrev main_c_22 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_c_24 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_25 : Ref sig .tc := ⟨.hbm, 110, rfl⟩
abbrev main_v82 : Ref sig .tc := ⟨.hbm, 111, rfl⟩
abbrev main_v83 : Ref sig .tc := ⟨.hbm, 112, rfl⟩
abbrev main_c_26 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_27 : Ref sig .tc := ⟨.hbm, 117, rfl⟩
abbrev main_v87 : Ref sig .tc := ⟨.hbm, 118, rfl⟩
abbrev main_v88 : Ref sig .tc := ⟨.hbm, 119, rfl⟩
abbrev main_c_28 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_29 : Ref sig .tc := ⟨.hbm, 126, rfl⟩
abbrev main_v94 : Ref sig .tc := ⟨.hbm, 127, rfl⟩
abbrev main_v95 : Ref sig .tc := ⟨.hbm, 128, rfl⟩
abbrev main_c_30 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_31 : Ref sig .tc := ⟨.hbm, 135, rfl⟩
abbrev main_v101 : Ref sig .tc := ⟨.hbm, 136, rfl⟩
abbrev main_v102 : Ref sig .tc := ⟨.hbm, 137, rfl⟩
abbrev main_c_32 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_33 : Ref sig .tc := ⟨.hbm, 144, rfl⟩
abbrev main_v108 : Ref sig .tc := ⟨.hbm, 145, rfl⟩
abbrev main_v109 : Ref sig .tc := ⟨.hbm, 146, rfl⟩
abbrev main_c_34 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_35 : Ref sig .tc := ⟨.hbm, 152, rfl⟩
abbrev main_v114 : Ref sig .tc := ⟨.hbm, 153, rfl⟩
abbrev main_v115 : Ref sig .tc := ⟨.hbm, 154, rfl⟩
abbrev main_c_36 : Ref sig .tc := ⟨.hbm, 155, rfl⟩
abbrev main_v116 : Ref sig .tc := ⟨.hbm, 156, rfl⟩
abbrev main_v117 : Ref sig .tc := ⟨.hbm, 157, rfl⟩
abbrev main_c_37 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_38 : Ref sig .tc := ⟨.hbm, 162, rfl⟩
abbrev main_v121 : Ref sig .tc := ⟨.hbm, 163, rfl⟩
abbrev main_v122 : Ref sig .tc := ⟨.hbm, 164, rfl⟩
abbrev main_c_39 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_40 : Ref sig .tc := ⟨.hbm, 171, rfl⟩
abbrev main_v128 : Ref sig .tc := ⟨.hbm, 172, rfl⟩
abbrev main_v129 : Ref sig .tc := ⟨.hbm, 173, rfl⟩
abbrev main_c_41 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_42 : Ref sig .tc := ⟨.hbm, 180, rfl⟩
abbrev main_v135 : Ref sig .tc := ⟨.hbm, 181, rfl⟩
abbrev main_v136 : Ref sig .tc := ⟨.hbm, 182, rfl⟩
abbrev main_c_43 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_44 : Ref sig .tc := ⟨.hbm, 189, rfl⟩
abbrev main_v142 : Ref sig .tc := ⟨.hbm, 190, rfl⟩
abbrev main_v143 : Ref sig .tc := ⟨.hbm, 191, rfl⟩
abbrev main_c_45 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_46 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_c_47 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_48 : Ref sig .tc := ⟨.hbm, 206, rfl⟩
abbrev main_v155 : Ref sig .tc := ⟨.hbm, 207, rfl⟩
abbrev main_v156 : Ref sig .tc := ⟨.hbm, 208, rfl⟩
abbrev main_c_49 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_50 : Ref sig .tc := ⟨.hbm, 215, rfl⟩
abbrev main_v162 : Ref sig .tc := ⟨.hbm, 216, rfl⟩
abbrev main_v163 : Ref sig .tc := ⟨.hbm, 217, rfl⟩
abbrev main_c_51 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_c_52 : Ref sig .tc := ⟨.hbm, 224, rfl⟩
abbrev main_v169 : Ref sig .tc := ⟨.hbm, 225, rfl⟩
abbrev main_v170 : Ref sig .tc := ⟨.hbm, 226, rfl⟩
abbrev main_c_53 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_c_54 : Ref sig .tc := ⟨.hbm, 233, rfl⟩
abbrev main_v176 : Ref sig .tc := ⟨.hbm, 234, rfl⟩
abbrev main_v177 : Ref sig .tc := ⟨.hbm, 235, rfl⟩
abbrev main_c_55 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_c_56 : Ref sig .tc := ⟨.hbm, 243, rfl⟩
abbrev main_v184 : Ref sig .tc := ⟨.hbm, 244, rfl⟩
abbrev main_v185 : Ref sig .tc := ⟨.hbm, 245, rfl⟩
abbrev main_c_57 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_c_58 : Ref sig .tc := ⟨.hbm, 250, rfl⟩
abbrev main_v189 : Ref sig .tc := ⟨.hbm, 251, rfl⟩
abbrev main_v190 : Ref sig .tc := ⟨.hbm, 252, rfl⟩
abbrev main_c_59 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_cst_60 : Ref sig .tc := ⟨.hbm, 257, rfl⟩
abbrev main_v194 : Ref sig .tc := ⟨.hbm, 258, rfl⟩
abbrev main_v195 : Ref sig .tc := ⟨.hbm, 259, rfl⟩
abbrev main_cst_61 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_call0_v0 : Ref sig .tc := ⟨.hbm, 268, rfl⟩
abbrev main_call0_cst : Ref sig .tc := ⟨.hbm, 269, rfl⟩
abbrev main_call0_c : Ref sig .tc := ⟨.hbm, 270, rfl⟩
abbrev main_call0_v1_0 : Ref sig .tc := ⟨.hbm, 271, rfl⟩
abbrev main_v203 : Ref sig .tc := ⟨.hbm, 272, rfl⟩

abbrev nD : Nat := 1
abbrev τ : Topo := Topo.v7x

variable {F : FTy → Type} [FloatOps F]
-- ==== Proof.Payload.lean ====
/- What one chunk of the kernel computes, as functions of the arrays it reads: the Threefry hash of the counters, the
   exponential variate of a hash, the masked score, and the running maximum with the chunk that attained it. -/
module

public import Idealize.ShloMosaic.PureOps

@[expose] public section

noncomputable section

namespace Cert.Sampler

open Idealize.ShloMosaic

variable {F : FTy → Type} [FloatOps F]

/-- The shape of one chunk: 32 rows of 512 lanes. -/
abbrev SC : Shape := ⟨2, ![32, 512]⟩

/-- The shape recast to itself. -/
theorem castSC : SC.ShapeCasts SC := rfl

/-- The lane index of each element. -/
def lane : IVec SC 32 := iota .tc SC 32 [1] (by decide)

/-- Rotation to the left by `l`, where `l + r = 32`. -/
def rotl (x : IVec SC 32) (l r : BitVec 32) : IVec SC 32 :=
  ori (shli x (broadcast SC l)) (shrui x (broadcast SC r))

/-- Four rounds of the hash. -/
def rounds (x0 x1 : IVec SC 32) (a a' b b' c c' d d' : BitVec 32) (k : IVec SC 32 → IVec SC 32 → IVec SC 32) : IVec SC 32 :=
  let y0 := addi x0 x1
  let y1 := xori y0 (rotl x1 a a')
  let z0 := addi y0 y1
  let z1 := xori z0 (rotl y1 b b')
  let u0 := addi z0 z1
  let u1 := xori u0 (rotl z1 c c')
  let w0 := addi u0 u1
  let w1 := xori w0 (rotl u1 d d')
  k w0 w1

/-- The kernel's Threefry hash of the counters `a` (which hold the key's 42 already), both words combined. -/
def hash (a : IVec SC 32) : IVec SC 32 :=
  let x1 := xori (rotl a 13#32 19#32) a
  let y0 := addi a x1
  let y1 := xori y0 (rotl x1 15#32 17#32)
  let z0 := addi y0 y1
  let z1 := xori z0 (rotl y1 26#32 6#32)
  let u0 := addi z0 z1
  let u1 := xori u0 (rotl z1 6#32 26#32)
  rounds (addi u0 (broadcast SC 42#32)) (addi u1 (broadcast SC (Scalar.addi 466689008#32 1#32))) 17#32 15#32 29#32 3#32 16#32 16#32 24#32 8#32 fun x0 x1 =>
  rounds (addi x0 (broadcast SC 466689008#32)) (addi x1 (broadcast SC 2#32)) 13#32 19#32 15#32 17#32 26#32 6#32 6#32 26#32 fun x0 x1 =>
  rounds x0 (addi x1 (broadcast SC (Scalar.addi 42#32 3#32))) 17#32 15#32 29#32 3#32 16#32 16#32 24#32 8#32 fun x0 x1 =>
  rounds (addi x0 (broadcast SC 42#32)) (addi x1 (broadcast SC (Scalar.addi 466689008#32 4#32))) 13#32 19#32 15#32 17#32 26#32 6#32 6#32 26#32 fun x0 x1 =>
  xori (addi x0 (broadcast SC 466689008#32)) (addi x1 (broadcast SC 5#32))

/-- The exponential variate of a hash: minus the logarithm of the uniform number that its upper 23 bits spell. -/
def expo (bits : IVec SC 32) : FVec F SC .f32 :=
  subf (broadcast SC (Scalar.ofBits .f32 0x00000000#32))
    (log (maximumf
      (subf (bitcastToFloat .f32 (ori (shrui bits (broadcast SC 9#32)) (broadcast SC 1065353216#32)))
        (broadcast SC (Scalar.ofBits .f32 0x3F800000#32)))
      (broadcast SC (Scalar.ofBits .f32 0x00800000#32))))

/-- How many lanes of chunk `q` lie inside the vocabulary; none of a negative chunk. -/
def bound (q : BitVec 32) : BitVec 32 :=
  Scalar.select (Scalar.andi (Scalar.cmpi .sge q 0#32) (Scalar.cmpi .slt (Scalar.muli q 512#32) 100000#32))
    (Scalar.subi 100000#32 (Scalar.muli q 512#32)) 0#32

/-- The scores of chunk `q`: Gumbel noise (of the exponential variate `w`) plus the logits, `-∞` outside the vocabulary. -/
def score (q : BitVec 32) (w x : FVec F SC .f32) : FVec F SC .f32 :=
  select (cmpi .slt lane (broadcast SC (bound q)))
    (addf (subf (broadcast SC (Scalar.ofBits .f32 0x00000000#32)) (log w)) x)
    (broadcast SC (Scalar.ofBits .f32 0xFF800000#32))

/-- The chunk of the best score so far: `q` where the maximum moved. -/
def pick (q : BitVec 32) (best z : FVec F SC .f32) (tid : IVec SC 32) : IVec SC 32 :=
  select (cmpf .one (maximumf best z) best) (broadcast SC q) tid

/-- The signed order of small numbers is their order. -/
theorem slt_ofNat (a b : Nat) (ha : a < 2 ^ 31) (hb : b < 2 ^ 31) : (BitVec.ofNat 32 a).slt (BitVec.ofNat 32 b) = decide (a < b) := by
  have e : ∀ n : Nat, n < 2 ^ 31 → (BitVec.ofNat 32 n).toInt = n := fun n hn => by
    rw [BitVec.toInt_eq_toNat_cond, BitVec.toNat_ofNat, Nat.mod_eq_of_lt (by omega), if_pos (by omega)]
  unfold BitVec.slt
  rw [e a ha, e b hb]
  simp only [Int.ofNat_lt]

end Cert.Sampler

end
-- ==== Proof.KBodyEq.lean ====
module

public import proofs.«01_k».proof.Proof.KChunk

@[expose] public section

set_option maxRecDepth 1000000
set_option maxHeartbeats 0

namespace Cert.Kernel.Chunk

open Idealize.ShloMosaic Idealize.SL.Sem Cert.Kernel Cert.Sampler

variable {F : FTy → Type} [FloatOps F] [Facts]
open Facts₀ Facts

/-- The generated body is the chunk-wise program. -/
theorem body_eq (i : grid0.Coords) (arg2 : Memref sig .tc .vmem S32x50688 .f32) (harg2 : arg2.IsWhole) (arg3 : Memref sig .tc .vmem S32x1 .i32) (harg3 : arg3.IsWhole) (arg4 : Memref sig .tc .vmem S32x512 .f32) (harg4 : arg4.IsWhole) (arg5 : Memref sig .tc .vmem S32x512 .i32) (harg5 : arg5.IsWhole) (arg6 : Memref sig .tc .vmem S32x512 .i32) (harg6 : arg6.IsWhole) (arg7 : Memref sig .tc .vmem S32x512 .i32) (harg7 : arg7.IsWhole) (arg8 : Memref sig .tc .vmem S32x512 .f32) (harg8 : arg8.IsWhole) (arg9 : Memref sig .tc .vmem S32x1024 .f32) (harg9 : arg9.IsWhole) :
    cc0_body (F := F) i arg2 harg2 arg3 harg3 arg4 harg4 arg5 harg5 arg6 harg6 arg7 harg7 arg8 harg8 arg9 harg9 = bodyP i arg2 arg3 arg4 arg5 arg6 arg7 arg8 arg9 := by
  by_cases h : Scalar.cmpi .ne (Scalar.extui (Scalar.cmpi .eq (BitVec.ofNat 32 (i 1).val) 0#32) : BitVec 32) 0#32 = 1#1
  · unfold cc0_body k0_part512 k0_part1 bodyP initP
    rw [dif_pos h, dif_pos h]
    rfl
  · unfold cc0_body k0_part512 k0_part1 bodyP initP
    rw [dif_neg h, dif_neg h]
    rfl

end Cert.Kernel.Chunk

end
-- ==== Proof.Steps.lean ====
/- A load and a whole store at the head of a program, for a buffer known by the values it holds. -/
module

public import Idealize.ShloMosaic.Lib.Pipeline.FrameBody
public import Idealize.ShloMosaic.Lib.Tactic

@[expose] public section

noncomputable section

namespace Cert.Sampler

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ} (𝒱 : Variants) (c : Thread nD τ)
variable (bd : Option 𝒱.V) (E : Set Name) {s : Shape} {e : EltTy}
local notation "𝕄" => MT nD τ sig Ix Val Name U Lvl

/-- A load through a rectangle of a buffer holding `X` goes on with `X` under the rectangle. -/
theorem load_owns {α : Type} {Q : α → sProp 𝕄} {cs : CoreSpace} (m : Memref sig c.2.kind cs s e) {r : Rect s} {hl : m.view.LoadsAt r.toLoadRect}
    {k : (r.shape.Idx → Val e) → Prog (TpuEff nD τ sig Val Λ c.2) α} (X : s.Idx → Val e) :
    (owns c m fullShare X : sProp 𝕄)
      ⊢ iprop((owns c m fullShare X -∗ wp frame (wpE defs 𝒱 c bd) E (k fun y => X (r.emb y)) Q)
        -∗ wp frame (wpE defs 𝒱 c bd) E (.op (.load m r.toLoadRect hl) k) Q) := by
  unfold owns
  iintro ⟨%f, %hf, H⟩ Hk
  have e1 : m.view.readAt Val r.toLoadRect f = fun y => X (r.emb y) := by subst hf; rfl
  rw [← e1]
  iapply (wp_load 𝒱 c bd E (m.view.setOn_subset_set _)) $$ H
  iintro H
  iapply Hk
  iexists f
  isplitr
  · ipureintro; exact hf
  iexact H

/-- A load through the rectangle that is the whole buffer goes on with what the buffer holds. -/
theorem load_whole {α : Type} {Q : α → sProp 𝕄} {cs : CoreSpace} (m : Memref sig c.2.kind cs s e) {off : Fin s.rank → Nat} (h0 : off = fun _ => 0)
    {inb : ∀ a, off a + s.size a ≤ s.size a} {hl : m.view.LoadsAt (Rect.unit off s.size inb).toLoadRect}
    {k : (s.Idx → Val e) → Prog (TpuEff nD τ sig Val Λ c.2) α} (X : s.Idx → Val e) :
    (owns c m fullShare X : sProp 𝕄)
      ⊢ iprop((owns c m fullShare X -∗ wp frame (wpE defs 𝒱 c bd) E (k X) Q)
        -∗ wp frame (wpE defs 𝒱 c bd) E (.op (.load m (Rect.unit off s.size inb).toLoadRect hl) k) Q) := by
  subst h0
  have h := load_owns (Ix := Ix) (Name := Name) (U := U) (Lvl := Lvl) (defs := defs) 𝒱 c bd E (Q := Q) m (r := Rect.unit (fun _ => 0) s.size inb) (hl := hl) (k := k) X
  have e1 : (fun y => X ((Rect.unit (fun _ => 0) s.size inb).emb y)) = X := funext fun y => congrArg X (Rect.emb_whole_apply s y)
  rwa [e1] at h

/-- A store over a whole buffer leaves the payload, whatever it held. -/
theorem store_owns {α : Type} {Q : α → sProp 𝕄} {cs : CoreSpace} (m : Memref sig c.2.kind cs s e) {off : Fin s.rank → Nat} (h0 : off = fun _ => 0)
    {inb : ∀ a, off a + s.size a ≤ s.size a} {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} (X : s.Idx → Val e) :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  subst h0
  unfold owns
  iintro ⟨%f, %hf, H⟩ Hk
  have hS : (m.access (Rect.unit (fun _ => 0) s.size inb)).setOn Finset.univ ⊆ m.view.set := m.view.set_slice_subset _
  iapply (wp_store 𝒱 c bd E hS) $$ H
  iintro H
  iapply Hk
  iexists _
  isplitr
  rotate_left
  · iexact H
  ipureintro
  funext x
  have e2 := congrFun ((m.access (Rect.unit (fun _ => 0) s.size inb)).read_write_univ f w) x
  refine Eq.trans ?_ e2
  show _ = m.view.read Val _ ((Rect.whole s).emb x)
  rw [Rect.emb_whole_apply]

end Cert.Sampler

end
-- ==== Proof.Chunk.lean ====
module

public import proofs.«01_k».proof.KernelIdeal
public import proofs.«01_k».proof.Proof.Payload

@[expose] public section

set_option maxRecDepth 65536

noncomputable section

namespace Cert.KernelIdeal.Chunk

open Idealize.ShloMosaic Idealize.SL.Sem Cert.KernelIdeal Cert.Sampler

variable {F : FTy → Type} [FloatOps F] [Facts]
open Facts₀ Facts

/-- Programs of the body. -/
abbrev PP (F : FTy → Type) [FloatOps F] := Prog (TpuEff nD τ sig (Elt F) Λ₀ .tc) PUnit
/-- A buffer of one chunk of floats. -/
abbrev M512 := Memref sig .tc .vmem S32x512 .f32
/-- A buffer of one chunk of integers. -/
abbrev I512 := Memref sig .tc .vmem S32x512 .i32

/-- One chunk, continued by `k`: score the hash drawn two chunks ago, turn the last hash into a variate, draw a hash. -/
def chunk (arg4 : M512) (arg5 arg6 arg7 : I512) (arg8 : M512)
    (xs : TpuEff nD τ sig (Elt F) Λ₀ .tc (Vec F S32x512 .f32)) (xv : FVec F SC .f32 → FVec F SC .f32) (q off : BitVec 32) (k : PP F) : PP F :=
  .op (.load arg8 (Rect.unit (s := S32x512) ![0, 0] S32x512.size inb_S32x512_S32x512_0_0).toLoadRect (View.loadsAt_vmem h_S32x512)) fun (w : Vec F S32x512 .f32) =>
  .op xs fun (x : Vec F S32x512 .f32) =>
  .op (.load arg4 (Rect.unit (s := S32x512) ![0, 0] S32x512.size inb_S32x512_S32x512_0_0).toLoadRect (View.loadsAt_vmem h_S32x512)) fun (best : Vec F S32x512 .f32) =>
  .op (.load arg4 (Rect.unit (s := S32x512) ![0, 0] S32x512.size inb_S32x512_S32x512_0_0).toLoadRect (View.loadsAt_vmem h_S32x512)) fun (_ : Vec F S32x512 .f32) =>
  .op (.store arg4 (Rect.unit (s := S32x512) ![0, 0] S32x512.size inb_S32x512_S32x512_0_0)
    (shapeCast SC (maximumf best (score q w (xv x))) castSC : FVec F SC .f32) Finset.univ (View.stores_vmem_bits_univ h_S32x512 rfl) (.inl rfl)) fun _ =>
  .op (.load arg5 (Rect.unit (s := S32x512) ![0, 0] S32x512.size inb_S32x512_S32x512_0_0).toLoadRect (View.loadsAt_vmem h_S32x512)) fun (tid : Vec F S32x512 .i32) =>
  .op (.load arg5 (Rect.unit (s := S32x512) ![0, 0] S32x512.size inb_S32x512_S32x512_0_0).toLoadRect (View.loadsAt_vmem h_S32x512)) fun (_ : Vec F S32x512 .i32) =>
  .op (.store arg5 (Rect.unit (s := S32x512) ![0, 0] S32x512.size inb_S32x512_S32x512_0_0)
    (shapeCast SC (pick q best (score q w (xv x)) tid) castSC : IVec SC 32) Finset.univ (View.stores_vmem_bits_univ h_S32x512 rfl) (.inl rfl)) fun _ =>
  .op (.load arg7 (Rect.unit (s := S32x512) ![0, 0] S32x512.size inb_S32x512_S32x512_0_0).toLoadRect (View.loadsAt_vmem h_S32x512)) fun (bits : Vec F S32x512 .i32) =>
  .op (.load arg8 (Rect.unit (s := S32x512) ![0, 0] S32x512.size inb_S32x512_S32x512_0_0).toLoadRect (View.loadsAt_vmem h_S32x512)) fun (_ : Vec F S32x512 .f32) =>
  .op (.store arg8 (Rect.unit (s := S32x512) ![0, 0] S32x512.size inb_S32x512_S32x512_0_0)
    (shapeCast SC (expo bits) castSC : FVec F SC .f32) Finset.univ (View.stores_vmem_bits_univ h_S32x512 rfl) (.inl rfl)) fun _ =>
  .op (.load arg6 (Rect.unit (s := S32x512) ![0, 0] S32x512.size inb_S32x512_S32x512_0_0).toLoadRect (View.loadsAt_vmem h_S32x512)) fun (jb : Vec F S32x512 .i32) =>
  .op (.load arg7 (Rect.unit (s := S32x512) ![0, 0] S32x512.size inb_S32x512_S32x512_0_0).toLoadRect (View.loadsAt_vmem h_S32x512)) fun (_ : Vec F S32x512 .i32) =>
  .op (.store arg7 (Rect.unit (s := S32x512) ![0, 0] S32x512.size inb_S32x512_S32x512_0_0)
    (shapeCast SC (hash (addi jb (broadcast SC off))) castSC : IVec SC 32) Finset.univ (View.stores_vmem_bits_univ h_S32x512 rfl) (.inl rfl)) fun _ =>
  k

/-- Slice `c` lies inside the block. -/
theorem xbox (c : Nat) (h : c < 97) : ∀ a, (![0, c * 512] : Fin 2 → Nat) a + S32x512.size a ≤ S32x50688.size a := by
  intro a
  match a with
  | ⟨0, _⟩ => exact Nat.le_refl _
  | ⟨1, _⟩ => show c * 512 + 512 ≤ 50688; omega

/-- The chunk's number: `s * 99 + c - 2`. -/
def qOf (v4 : BitVec 32) (c : Nat) : BitVec 32 := Scalar.subi (Scalar.addi v4 (BitVec.ofNat 32 c)) 2#32

/-- The chunk's counters start here. -/
def offOf (v4 : BitVec 32) (c : Nat) : BitVec 32 := Scalar.muli (Scalar.addi v4 (BitVec.ofNat 32 c)) 512#32

/-- Chunks `c + 2, c + 3, …` (`n` of them), reading the window's block. -/
def chunks (arg2 : Memref sig .tc .vmem S32x50688 .f32) (arg4 : M512) (arg5 arg6 arg7 : I512) (arg8 : M512)
    (v4 : BitVec 32) (k : PP F) : (n c : Nat) → c + n ≤ 97 → PP F
  | 0, _, _ => k
  | n + 1, c, h =>
    chunk arg4 arg5 arg6 arg7 arg8 (.load arg2 (Rect.unit (s := S32x50688) ![0, c * 512] S32x512.size (xbox c (by omega))).toLoadRect (View.loadsAt_vmem h_S32x512))
      (fun x => shapeCast SC x castSC) (qOf v4 (c + 2)) (offOf v4 (c + 2)) (chunks arg2 arg4 arg5 arg6 arg7 arg8 v4 k n (c + 1) (by omega))

/-- The first counters of each row and lane, the key's 42 added. -/
def base (arg0 : BitVec 32) : IVec SC 32 :=
  addi (addi (muli (addi (broadcast SC (Scalar.muli arg0 32#32)) (iota .tc SC 32 [0] iota_S32x512_d0_w32)) (broadcast SC 100000#32))
    (iota .tc SC 32 [1] iota_S32x512_d1_w32)) (broadcast SC 42#32)

/-- The first column's set-up: the counters, the score `-∞`, the chunk 0. -/
def initP (i : grid0.Coords) (arg4 : M512) (arg5 arg6 : I512) (k : PP F) : PP F :=
  (if _ : Scalar.cmpi .ne (Scalar.extui (Scalar.cmpi .eq (BitVec.ofNat 32 (i 1).val) 0#32) : BitVec 32) 0#32 = 1#1 then
    .op (.load arg6 (Rect.unit (s := S32x512) ![0, 0] S32x512.size inb_S32x512_S32x512_0_0).toLoadRect (View.loadsAt_vmem h_S32x512)) fun (_ : Vec F S32x512 .i32) =>
    .op (.store arg6 (Rect.unit (s := S32x512) ![0, 0] S32x512.size inb_S32x512_S32x512_0_0) (shapeCast SC (base (BitVec.ofNat 32 (i 0).val)) castSC : IVec SC 32) Finset.univ (View.stores_vmem_bits_univ h_S32x512 rfl) (.inl rfl)) fun _ =>
    .op (.load arg4 (Rect.unit (s := S32x512) ![0, 0] S32x512.size inb_S32x512_S32x512_0_0).toLoadRect (View.loadsAt_vmem h_S32x512)) fun (_ : Vec F S32x512 .f32) =>
    .op (.store arg4 (Rect.unit (s := S32x512) ![0, 0] S32x512.size inb_S32x512_S32x512_0_0) (shapeCast SC (broadcast SC (Scalar.ofBits .f32 0xFF800000#32)) castSC : FVec F SC .f32) Finset.univ (View.stores_vmem_bits_univ h_S32x512 rfl) (.inl rfl)) fun _ =>
    .op (.load arg5 (Rect.unit (s := S32x512) ![0, 0] S32x512.size inb_S32x512_S32x512_0_0).toLoadRect (View.loadsAt_vmem h_S32x512)) fun (_ : Vec F S32x512 .i32) =>
    .op (.store arg5 (Rect.unit (s := S32x512) ![0, 0] S32x512.size inb_S32x512_S32x512_0_0) (shapeCast SC (broadcast SC 0#32) castSC : IVec SC 32) Finset.univ (View.stores_vmem_bits_univ h_S32x512 rfl) (.inl rfl)) fun _ =>
    k
  else k)

/-- The row's winner: the least column among the lanes whose score is the row's best. -/
def winner (best : FVec F SC .f32) (tid : IVec SC 32) : IVec S32x1 32 :=
  shapeCast S32x1 (multiReductionI .minsi [1] S32
    (select (cmpf .oeq best (broadcastTo SC (shapeCast S32x1 (multiReduction .maximumf [1] S32 best 0xFF800000#32 reduces_S32x512_S32 (.inl rfl) rfl) shapeCasts_S32_S32x1) broadcasts_S32x1_S32x512))
      (addi (shli tid (broadcast SC 9#32)) (iota .tc SC 32 [1] iota_S32x512_d1_w32)) (broadcast SC 100000#32))
    2147483647#32 reduces_S32x512_S32 rfl) shapeCasts_S32_S32x1

/-- The last lines: keep the block's last two slices; after the last column write the winners. -/
def tailP (i : grid0.Coords) (arg2 : Memref sig .tc .vmem S32x50688 .f32) (arg3 : Memref sig .tc .vmem S32x1 .i32) (arg4 : M512) (arg5 : I512)
    (arg9 : Memref sig .tc .vmem S32x1024 .f32) : PP F :=
  .op (.load arg2 (Rect.unit (s := S32x50688) ![0, 49664] S32x1024.size inb_S32x50688_S32x1024_0_49664).toLoadRect (View.loadsAt_vmem h_S32x1024)) fun (x : Vec F S32x1024 .f32) =>
  .op (.load arg9 (Rect.unit (s := S32x1024) ![0, 0] S32x1024.size inb_S32x1024_S32x1024_0_0).toLoadRect (View.loadsAt_vmem h_S32x1024)) fun (_ : Vec F S32x1024 .f32) =>
  .op (.store arg9 (Rect.unit (s := S32x1024) ![0, 0] S32x1024.size inb_S32x1024_S32x1024_0_0)
    (shapeCast S32x1024 (shapeCast S32x1024 x shapeCasts_S32x1024_S32x1024) shapeCasts_S32x1024_S32x1024 : FVec F S32x1024 .f32) Finset.univ (View.stores_vmem_bits_univ h_S32x1024 rfl) (.inl rfl)) fun _ =>
  if _ : k0_cond2 i = 1#1 then
    .op (.load arg4 (Rect.unit (s := S32x512) ![0, 0] S32x512.size inb_S32x512_S32x512_0_0).toLoadRect (View.loadsAt_vmem h_S32x512)) fun (best : Vec F S32x512 .f32) =>
    .op (.load arg5 (Rect.unit (s := S32x512) ![0, 0] S32x512.size inb_S32x512_S32x512_0_0).toLoadRect (View.loadsAt_vmem h_S32x512)) fun (tid : Vec F S32x512 .i32) =>
    .op (.load arg3 (Rect.unit (s := S32x1) ![0, 0] S32x1.size inb_S32x1_S32x1_0_0).toLoadRect (View.loadsAt_vmem h_S32x1)) fun (_ : Vec F S32x1 .i32) =>
    .op (.store arg3 (Rect.unit (s := S32x1) ![0, 0] S32x1.size inb_S32x1_S32x1_0_0) (winner best tid) Finset.univ (View.stores_vmem_bits_univ h_S32x1 rfl) (.inl rfl)) fun _ =>
    .ret ⟨⟩
  else .ret ⟨⟩

/-- The whole body in this form. -/
def bodyP (i : grid0.Coords) (arg2 : Memref sig .tc .vmem S32x50688 .f32) (arg3 : Memref sig .tc .vmem S32x1 .i32) (arg4 : M512) (arg5 arg6 arg7 : I512) (arg8 : M512)
    (arg9 : Memref sig .tc .vmem S32x1024 .f32) : PP F :=
  initP i arg4 arg5 arg6 <|
  chunk arg4 arg5 arg6 arg7 arg8 (.load arg9 (Rect.unit (s := S32x1024) ![0, 0] S32x512.size inb_S32x1024_S32x512_0_0).toLoadRect (View.loadsAt_vmem h_S32x512))
    (fun x => x) (qOf (Scalar.muli (BitVec.ofNat 32 (i 1).val) 99#32) 0) (offOf (Scalar.muli (BitVec.ofNat 32 (i 1).val) 99#32) 0) <|
  chunk arg4 arg5 arg6 arg7 arg8 (.load arg9 (Rect.unit (s := S32x1024) ![0, 512] S32x512.size inb_S32x1024_S32x512_0_512).toLoadRect (View.loadsAt_vmem h_S32x512))
    (fun x => x) (qOf (Scalar.muli (BitVec.ofNat 32 (i 1).val) 99#32) 1) (offOf (Scalar.muli (BitVec.ofNat 32 (i 1).val) 99#32) 1) <|
  chunks arg2 arg4 arg5 arg6 arg7 arg8 (Scalar.muli (BitVec.ofNat 32 (i 1).val) 99#32) (tailP i arg2 arg3 arg4 arg5 arg9) 97 0 (by omega)

end Cert.KernelIdeal.Chunk

end
-- ==== Proof.BodyEq.lean ====
module

public import proofs.«01_k».proof.Proof.Chunk

@[expose] public section

set_option maxRecDepth 1000000
set_option maxHeartbeats 0

namespace Cert.KernelIdeal.Chunk

open Idealize.ShloMosaic Idealize.SL.Sem Cert.KernelIdeal Cert.Sampler

variable {F : FTy → Type} [FloatOps F] [Facts]
open Facts₀ Facts

/-- The generated body is the chunk-wise program. -/
theorem body_eq (i : grid0.Coords) (arg2 : Memref sig .tc .vmem S32x50688 .f32) (harg2 : arg2.IsWhole) (arg3 : Memref sig .tc .vmem S32x1 .i32) (harg3 : arg3.IsWhole) (arg4 : Memref sig .tc .vmem S32x512 .f32) (harg4 : arg4.IsWhole) (arg5 : Memref sig .tc .vmem S32x512 .i32) (harg5 : arg5.IsWhole) (arg6 : Memref sig .tc .vmem S32x512 .i32) (harg6 : arg6.IsWhole) (arg7 : Memref sig .tc .vmem S32x512 .i32) (harg7 : arg7.IsWhole) (arg8 : Memref sig .tc .vmem S32x512 .f32) (harg8 : arg8.IsWhole) (arg9 : Memref sig .tc .vmem S32x1024 .f32) (harg9 : arg9.IsWhole) :
    cc0_body (F := F) i arg2 harg2 arg3 harg3 arg4 harg4 arg5 harg5 arg6 harg6 arg7 harg7 arg8 harg8 arg9 harg9 = bodyP i arg2 arg3 arg4 arg5 arg6 arg7 arg8 arg9 := by
  by_cases h : Scalar.cmpi .ne (Scalar.extui (Scalar.cmpi .eq (BitVec.ofNat 32 (i 1).val) 0#32) : BitVec 32) 0#32 = 1#1
  · unfold cc0_body k0_part512 k0_part1 bodyP initP
    rw [dif_pos h, dif_pos h]
    rfl
  · unfold cc0_body k0_part512 k0_part1 bodyP initP
    rw [dif_neg h, dif_neg h]
    rfl

end Cert.KernelIdeal.Chunk

end
-- ==== Proof.Walk.lean ====
/- The body of the kernel as a function of what its buffers hold. -/
module

public import proofs.«01_k».proof.Proof.Chunk
public import proofs.«01_k».proof.Proof.Steps

@[expose] public section

set_option maxRecDepth 65536

noncomputable section

namespace Cert.KernelIdeal.Chunk

open Idealize.ShloMosaic Cert.KernelIdeal Cert.Sampler
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

variable {Name : Type} [DecidableEq Name] {U : Type} [URA U] {Lvl : Type} [Preorder Lvl]
local notation "𝕄" => MT nD τ sig Unit (Elt F) Name U Lvl

/-- What the five carried buffers hold. -/
structure St (F : FTy → Type) where
  best : SC.Idx → F .f32
  tid : SC.Idx → BitVec 32
  jb : SC.Idx → BitVec 32
  bits : SC.Idx → BitVec 32
  w : SC.Idx → F .f32

/-- One chunk on the carried values. -/
def step (q off : BitVec 32) (x : FVec F SC .f32) (st : St F) : St F where
  best := maximumf st.best (score q st.w x)
  tid := pick q st.best (score q st.w x) st.tid
  jb := st.jb
  bits := hash (addi st.jb (broadcast SC off))
  w := expo st.bits

/-- A cast of a chunk to its own shape changes nothing. -/
theorem shapeCast_SC {α : Type} (x : SC.Idx → α) (h : SC.ShapeCasts SC) : shapeCast SC x h = x := by
  funext i; unfold shapeCast; simp

/-- The five buffers at `st`. -/
abbrev held (c : Dev nD) (arg4 : M512) (arg5 arg6 arg7 : I512) (arg8 : M512) (st : St F) : sProp 𝕄 :=
  iprop(owns (c : Thread nD τ) arg4 fullShare (st.best : S32x512.Idx → Elt F .f32) ∗ owns (c : Thread nD τ) arg5 fullShare (st.tid : S32x512.Idx → Elt F .i32)
    ∗ owns (c : Thread nD τ) arg6 fullShare (st.jb : S32x512.Idx → Elt F .i32) ∗ owns (c : Thread nD τ) arg7 fullShare (st.bits : S32x512.Idx → Elt F .i32)
    ∗ owns (c : Thread nD τ) arg8 fullShare (st.w : S32x512.Idx → Elt F .f32))

/-- The zero offsets, spelled as a function. -/
theorem hz : (![0, 0] : Fin 2 → Nat) = fun _ => 0 := funext fun a => by fin_cases a <;> rfl

variable {defs : Defs nD τ sig (Elt F) Λ₀} (𝒱 : Variants) (c : Dev nD) (E : Set Name)
variable (arg4 : M512) (arg5 arg6 arg7 : I512) (arg8 : M512)

/-- One chunk takes the buffers from `st` to `step … st`. -/
theorem chunk_wp (R : sProp 𝕄) (X : FVec F SC .f32) {xs : TpuEff nD τ sig (Elt F) Λ₀ .tc (Vec F S32x512 .f32)} {xv : FVec F SC .f32 → FVec F SC .f32}
    {q off : BitVec 32} {k : PP F} {Q : PUnit → sProp 𝕄} (st : St F)
    (hxs : ∀ (k' : Vec F S32x512 .f32 → PP F), R ⊢ iprop((R -∗ wp frame (wpE defs 𝒱 (c : Thread nD τ) none) E (k' X) Q) -∗ wp frame (wpE defs 𝒱 (c : Thread nD τ) none) E (.op xs k') Q)) :
    iprop(R ∗ held c arg4 arg5 arg6 arg7 arg8 st ∗ (R ∗ held c arg4 arg5 arg6 arg7 arg8 (step q off (xv X) st) -∗ wp frame (wpE defs 𝒱 (c : Thread nD τ) none) E k Q))
      ⊢ wp frame (wpE defs 𝒱 (c : Thread nD τ) none) E (chunk arg4 arg5 arg6 arg7 arg8 xs xv q off k) Q := by
  unfold chunk held
  simp only [shapeCast_SC]
  iintro ⟨HR, ⟨H4, H5, H6, H7, H8⟩, Hk⟩
  iapply (load_whole 𝒱 (c : Thread nD τ) none E arg8 hz st.w) $$ H8; iintro H8
  iapply (hxs _) $$ HR; iintro HR
  iapply (load_whole 𝒱 (c : Thread nD τ) none E arg4 hz st.best) $$ H4; iintro H4
  iapply (load_whole 𝒱 (c : Thread nD τ) none E arg4 hz st.best) $$ H4; iintro H4
  iapply (store_owns 𝒱 (c : Thread nD τ) none E arg4 hz st.best) $$ H4; iintro H4
  iapply (load_whole 𝒱 (c : Thread nD τ) none E arg5 hz st.tid) $$ H5; iintro H5
  iapply (load_whole 𝒱 (c : Thread nD τ) none E arg5 hz st.tid) $$ H5; iintro H5
  iapply (store_owns 𝒱 (c : Thread nD τ) none E arg5 hz st.tid) $$ H5; iintro H5
  iapply (load_whole 𝒱 (c : Thread nD τ) none E arg7 hz st.bits) $$ H7; iintro H7
  iapply (load_whole 𝒱 (c : Thread nD τ) none E arg8 hz st.w) $$ H8; iintro H8
  iapply (store_owns 𝒱 (c : Thread nD τ) none E arg8 hz st.w) $$ H8; iintro H8
  iapply (load_whole 𝒱 (c : Thread nD τ) none E arg6 hz st.jb) $$ H6; iintro H6
  iapply (load_whole 𝒱 (c : Thread nD τ) none E arg7 hz st.bits) $$ H7; iintro H7
  iapply (store_owns 𝒱 (c : Thread nD τ) none E arg7 hz st.bits) $$ H7; iintro H7
  iapply Hk
  isplitl [HR]; · iexact HR
  isplitl [H4]; · iexact H4
  isplitl [H5]; · iexact H5
  isplitl [H6]; · iexact H6
  isplitl [H7]; · iexact H7
  iexact H8

/-- Slice `n` of a block: 512 columns of it. -/
def slice (x : S32x50688.Idx → F .f32) (n : Nat) (h : n < 97) : FVec F SC .f32 :=
  fun y => x ((Rect.unit (s := S32x50688) ![0, n * 512] S32x512.size (xbox n h)).emb y)

/-- Chunks `n + 2, n + 3, …` (`l` of them) on the carried values. -/
def run (x : S32x50688.Idx → F .f32) (v4 : BitVec 32) : (l n : Nat) → n + l ≤ 97 → St F → St F
  | 0, _, _, st => st
  | l + 1, n, h, st => run x v4 l (n + 1) (by omega) (step (qOf v4 (n + 2)) (offOf v4 (n + 2)) (slice x n (by omega)) st)

variable (arg2 : Memref sig .tc .vmem S32x50688 .f32) (arg3 : Memref sig .tc .vmem S32x1 .i32) (arg9 : Memref sig .tc .vmem S32x1024 .f32)

/-- A load of slice `n`. -/
theorem load_slice (x : S32x50688.Idx → F .f32) (n : Nat) (h : n < 97) (k' : Vec F S32x512 .f32 → PP F) {Q : PUnit → sProp 𝕄} :
    (owns (c : Thread nD τ) arg2 fullShare (x : S32x50688.Idx → Elt F .f32) : sProp 𝕄)
      ⊢ iprop((owns (c : Thread nD τ) arg2 fullShare (x : S32x50688.Idx → Elt F .f32) -∗ wp frame (wpE defs 𝒱 (c : Thread nD τ) none) E (k' (slice x n h)) Q)
        -∗ wp frame (wpE defs 𝒱 (c : Thread nD τ) none) E
          (.op (.load arg2 (Rect.unit (s := S32x50688) ![0, n * 512] S32x512.size (xbox n h)).toLoadRect (View.loadsAt_vmem h_S32x512)) k') Q) := by
  unfold slice
  exact load_owns (Val := Elt F) (Ix := Unit) (Name := Name) (U := U) (Lvl := Lvl) (defs := defs) 𝒱 (c : Thread nD τ) none E arg2
    (r := Rect.unit (s := S32x50688) ![0, n * 512] S32x512.size (xbox n h)) (k := k') x

/-- The chunks of the window's block, one after the other. -/
theorem chunks_wp (x : S32x50688.Idx → F .f32) (v4 : BitVec 32) {k : PP F} {Q : PUnit → sProp 𝕄} : (l n : Nat) → (h : n + l ≤ 97) → (st : St F) →
    (iprop(owns (c : Thread nD τ) arg2 fullShare (x : S32x50688.Idx → Elt F .f32) ∗ held c arg4 arg5 arg6 arg7 arg8 st
        ∗ (owns (c : Thread nD τ) arg2 fullShare (x : S32x50688.Idx → Elt F .f32) ∗ held c arg4 arg5 arg6 arg7 arg8 (run x v4 l n h st) -∗ wp frame (wpE defs 𝒱 (c : Thread nD τ) none) E k Q))
      ⊢ wp frame (wpE defs 𝒱 (c : Thread nD τ) none) E (chunks arg2 arg4 arg5 arg6 arg7 arg8 v4 k l n h) Q)
  | 0, _, _, st => by
    unfold chunks run
    iintro ⟨H2, Hs, Hk⟩
    iapply Hk
    isplitl [H2]; · iexact H2
    iexact Hs
  | l + 1, n, h, st => by
    have hn : n < 97 := by omega
    have hl := fun k' => load_slice (defs := defs) 𝒱 c E arg2 x n hn k' (Q := Q)
    have hc := chunk_wp (defs := defs) 𝒱 c E arg4 arg5 arg6 arg7 arg8 (owns (c : Thread nD τ) arg2 fullShare (x : S32x50688.Idx → Elt F .f32)) (slice x n hn)
      (xv := fun x => shapeCast SC x castSC) (q := qOf v4 (n + 2)) (off := offOf v4 (n + 2))
      (k := chunks arg2 arg4 arg5 arg6 arg7 arg8 v4 k l (n + 1) (by omega)) st hl
    unfold chunks run
    iintro ⟨H2, Hs, Hk⟩
    iapply hc
    isplitl [H2]; · iexact H2
    isplitl [Hs]; · iexact Hs
    simp only [shapeCast_SC]
    iintro ⟨H2, Hs⟩
    iapply (chunks_wp x v4 l (n + 1) _ _)
    isplitl [H2]; · iexact H2
    isplitl [Hs]; · iexact Hs
    iexact Hk

/-- The first column's test, as the program spells it. -/
abbrev isFirst (i : grid0.Coords) : Prop := Scalar.cmpi .ne (Scalar.extui (Scalar.cmpi .eq (BitVec.ofNat 32 (i 1).val) 0#32) : BitVec 32) 0#32 = 1#1

/-- The carried values after the set-up. -/
def initSt (i : grid0.Coords) (st : St F) : St F :=
  if isFirst i then { st with best := broadcast SC (Scalar.ofBits .f32 0xFF800000#32), tid := broadcast SC 0#32, jb := base (BitVec.ofNat 32 (i 0).val) } else st

/-- The set-up of the first column. -/
theorem init_wp (i : grid0.Coords) {k : PP F} {Q : PUnit → sProp 𝕄} (st : St F) :
    iprop(held c arg4 arg5 arg6 arg7 arg8 st ∗ (held c arg4 arg5 arg6 arg7 arg8 (initSt i st) -∗ wp frame (wpE defs 𝒱 (c : Thread nD τ) none) E k Q))
      ⊢ wp frame (wpE defs 𝒱 (c : Thread nD τ) none) E (initP i arg4 arg5 arg6 k) Q := by
  unfold initP initSt
  by_cases h : isFirst i
  · rw [dif_pos h, if_pos h]
    unfold held
    simp only [shapeCast_SC]
    iintro ⟨⟨H4, H5, H6, H7, H8⟩, Hk⟩
    iapply (load_whole 𝒱 (c : Thread nD τ) none E arg6 hz st.jb) $$ H6; iintro H6
    iapply (store_owns 𝒱 (c : Thread nD τ) none E arg6 hz st.jb) $$ H6; iintro H6
    iapply (load_whole 𝒱 (c : Thread nD τ) none E arg4 hz st.best) $$ H4; iintro H4
    iapply (store_owns 𝒱 (c : Thread nD τ) none E arg4 hz st.best) $$ H4; iintro H4
    iapply (load_whole 𝒱 (c : Thread nD τ) none E arg5 hz st.tid) $$ H5; iintro H5
    iapply (store_owns 𝒱 (c : Thread nD τ) none E arg5 hz st.tid) $$ H5; iintro H5
    iapply Hk
    isplitl [H4]; · iexact H4
    isplitl [H5]; · iexact H5
    isplitl [H6]; · iexact H6
    isplitl [H7]; · iexact H7
    iexact H8
  · rw [dif_neg h, if_neg h]
    iintro ⟨Hs, Hk⟩
    iapply Hk
    iexact Hs

/-- A block's last 1024 columns, kept for the next column of the grid. -/
def lastTwo (x : S32x50688.Idx → F .f32) : S32x1024.Idx → F .f32 :=
  fun y => x ((Rect.unit (s := S32x50688) ![0, 49664] S32x1024.size inb_S32x50688_S32x1024_0_49664).emb y)

/-- What the output's buffer holds after the last lines. -/
def outSt (i : grid0.Coords) (st : St F) (o : S32x1.Idx → BitVec 32) : S32x1.Idx → BitVec 32 :=
  if k0_cond2 i = 1#1 then winner st.best st.tid else o

/-- Recasting to the same shape changes nothing. -/
theorem shapeCast_same {s : Shape} {α : Type} (x : s.Idx → α) (h : s.ShapeCasts s) : shapeCast s x h = x := by
  funext i; unfold shapeCast; simp

/-- The last lines of the body. -/
theorem tail_wp (i : grid0.Coords) (x : S32x50688.Idx → F .f32) (o : S32x1.Idx → BitVec 32) (xp : S32x1024.Idx → F .f32) {Q : PUnit → sProp 𝕄} (st : St F) :
    iprop(owns (c : Thread nD τ) arg2 fullShare (x : S32x50688.Idx → Elt F .f32) ∗ owns (c : Thread nD τ) arg3 fullShare (o : S32x1.Idx → Elt F .i32)
        ∗ held c arg4 arg5 arg6 arg7 arg8 st ∗ owns (c : Thread nD τ) arg9 fullShare (xp : S32x1024.Idx → Elt F .f32)
        ∗ (owns (c : Thread nD τ) arg2 fullShare (x : S32x50688.Idx → Elt F .f32) ∗ owns (c : Thread nD τ) arg3 fullShare (outSt i st o : S32x1.Idx → Elt F .i32)
          ∗ held c arg4 arg5 arg6 arg7 arg8 st ∗ owns (c : Thread nD τ) arg9 fullShare (lastTwo x : S32x1024.Idx → Elt F .f32) -∗ Q ⟨⟩))
      ⊢ wp frame (wpE defs 𝒱 (c : Thread nD τ) none) E (tailP i arg2 arg3 arg4 arg5 arg9) Q := by
  unfold tailP outSt held
  simp only [shapeCast_same]
  iintro ⟨H2, H3, ⟨H4, H5, H6, H7, H8⟩, H9, Hk⟩
  iapply (load_owns 𝒱 (c : Thread nD τ) none E arg2 x) $$ H2; iintro H2
  iapply (load_whole 𝒱 (c : Thread nD τ) none E arg9 hz xp) $$ H9; iintro H9
  iapply (store_owns 𝒱 (c : Thread nD τ) none E arg9 hz xp) $$ H9; iintro H9
  by_cases h : k0_cond2 i = 1#1
  · rw [dif_pos h, if_pos h]
    iapply (load_whole 𝒱 (c : Thread nD τ) none E arg4 hz st.best) $$ H4; iintro H4
    iapply (load_whole 𝒱 (c : Thread nD τ) none E arg5 hz st.tid) $$ H5; iintro H5
    iapply (load_whole 𝒱 (c : Thread nD τ) none E arg3 hz o) $$ H3; iintro H3
    iapply (store_owns 𝒱 (c : Thread nD τ) none E arg3 hz o) $$ H3; iintro H3
    rw [wp_ret]; imodintro
    iapply Hk
    isplitl [H2]; · iexact H2
    isplitl [H3]; · iexact H3
    isplitl [H4 H5 H6 H7 H8]
    · isplitl [H4]; · iexact H4
      isplitl [H5]; · iexact H5
      isplitl [H6]; · iexact H6
      isplitl [H7]; · iexact H7
      iexact H8
    iexact H9
  · rw [dif_neg h, if_neg h]
    rw [wp_ret]; imodintro
    iapply Hk
    isplitl [H2]; · iexact H2
    isplitl [H3]; · iexact H3
    isplitl [H4 H5 H6 H7 H8]
    · isplitl [H4]; · iexact H4
      isplitl [H5]; · iexact H5
      isplitl [H6]; · iexact H6
      isplitl [H7]; · iexact H7
      iexact H8
    iexact H9

/-- The multiple of 99 at which the grid's column starts to count its chunks. -/
abbrev v4Of (i : grid0.Coords) : BitVec 32 := Scalar.muli (BitVec.ofNat 32 (i 1).val) 99#32

/-- Halves of the kept columns. -/
def half0 (xp : S32x1024.Idx → F .f32) : FVec F SC .f32 :=
  fun y => xp ((Rect.unit (s := S32x1024) ![0, 0] S32x512.size inb_S32x1024_S32x512_0_0).emb y)
/-- The second half of the kept columns. -/
def half1 (xp : S32x1024.Idx → F .f32) : FVec F SC .f32 :=
  fun y => xp ((Rect.unit (s := S32x1024) ![0, 512] S32x512.size inb_S32x1024_S32x512_0_512).emb y)

/-- The carried values after the body, from those before it, the block and the kept columns. -/
def bodySt (i : grid0.Coords) (x : S32x50688.Idx → F .f32) (xp : S32x1024.Idx → F .f32) (st : St F) : St F :=
  run x (v4Of i) 97 0 (by omega)
    (step (qOf (v4Of i) 1) (offOf (v4Of i) 1) (half1 xp) (step (qOf (v4Of i) 0) (offOf (v4Of i) 0) (half0 xp) (initSt i st)))

/-- The whole body. -/
theorem body_wp (i : grid0.Coords) (x : S32x50688.Idx → F .f32) (o : S32x1.Idx → BitVec 32) (xp : S32x1024.Idx → F .f32) {Q : PUnit → sProp 𝕄} (st : St F) :
    iprop(owns (c : Thread nD τ) arg2 fullShare (x : S32x50688.Idx → Elt F .f32) ∗ owns (c : Thread nD τ) arg3 fullShare (o : S32x1.Idx → Elt F .i32)
        ∗ held c arg4 arg5 arg6 arg7 arg8 st ∗ owns (c : Thread nD τ) arg9 fullShare (xp : S32x1024.Idx → Elt F .f32)
        ∗ (owns (c : Thread nD τ) arg2 fullShare (x : S32x50688.Idx → Elt F .f32) ∗ owns (c : Thread nD τ) arg3 fullShare (outSt i (bodySt i x xp st) o : S32x1.Idx → Elt F .i32)
          ∗ held c arg4 arg5 arg6 arg7 arg8 (bodySt i x xp st) ∗ owns (c : Thread nD τ) arg9 fullShare (lastTwo x : S32x1024.Idx → Elt F .f32) -∗ Q ⟨⟩))
      ⊢ wp frame (wpE defs 𝒱 (c : Thread nD τ) none) E (bodyP i arg2 arg3 arg4 arg5 arg6 arg7 arg8 arg9) Q := by
  unfold bodyP
  iintro ⟨H2, H3, Hs, H9, Hk⟩
  iapply (init_wp 𝒱 c E arg4 arg5 arg6 arg7 arg8 i st)
  isplitl [Hs]; · iexact Hs
  iintro Hs
  iapply (chunk_wp 𝒱 c E arg4 arg5 arg6 arg7 arg8 (owns (c : Thread nD τ) arg9 fullShare (xp : S32x1024.Idx → Elt F .f32)) (half0 xp) _
      (fun k' => load_owns 𝒱 (c : Thread nD τ) none E arg9 (r := Rect.unit (s := S32x1024) ![0, 0] S32x512.size inb_S32x1024_S32x512_0_0) (k := k') xp))
  isplitl [H9]; · iexact H9
  isplitl [Hs]; · iexact Hs
  iintro ⟨H9, Hs⟩
  iapply (chunk_wp 𝒱 c E arg4 arg5 arg6 arg7 arg8 (owns (c : Thread nD τ) arg9 fullShare (xp : S32x1024.Idx → Elt F .f32)) (half1 xp) _
      (fun k' => load_owns 𝒱 (c : Thread nD τ) none E arg9 (r := Rect.unit (s := S32x1024) ![0, 512] S32x512.size inb_S32x1024_S32x512_0_512) (k := k') xp))
  isplitl [H9]; · iexact H9
  isplitl [Hs]; · iexact Hs
  iintro ⟨H9, Hs⟩
  iapply (chunks_wp 𝒱 c E arg4 arg5 arg6 arg7 arg8 arg2 x _ 97 0 _ _)
  isplitl [H2]; · iexact H2
  isplitl [Hs]; · iexact Hs
  iintro ⟨H2, Hs⟩
  iapply (tail_wp 𝒱 c E arg4 arg5 arg6 arg7 arg8 arg2 arg3 arg9 i x o xp _)
  isplitl [H2]; · iexact H2
  isplitl [H3]; · iexact H3
  isplitl [Hs]; · iexact Hs
  isplitl [H9]; · iexact H9
  iexact Hk

end Cert.KernelIdeal.Chunk

end
-- ==== Proof.Track.lean ====
/- What the carried buffers hold after each chunk, as a function of the logits alone. -/
module

public import proofs.«01_k».proof.Proof.Walk

@[expose] public section

set_option maxRecDepth 65536

noncomputable section

namespace Cert.KernelIdeal.Chunk

open Idealize.ShloMosaic Cert.KernelIdeal Cert.Sampler

variable {F : FTy → Type} [FloatOps F] [Facts]
open Facts₀ Facts

/-- The hash drawn at chunk `p` of the rows of block `b`. -/
def hashAt (b p : Nat) : IVec SC 32 := hash (addi (base (BitVec.ofNat 32 b)) (broadcast SC (BitVec.ofNat 32 p * 512#32)))

/-- Slice `q` of the logits `g` (by row and column) on the rows of block `b`. -/
def sliceAt (g : Nat → Nat → F .f32) (b q : Nat) : FVec F SC .f32 := fun i => g (32 * b + (i 0).val) (512 * q + (i 1).val)

/-- The scores that chunk `p` adds to the running maximum: those of slice `p - 2`. -/
def scoreAt (g : Nat → Nat → F .f32) (b p : Nat) : FVec F SC .f32 :=
  score (BitVec.ofNat 32 p - 2#32) (expo (hashAt b (p - 2))) (sliceAt g b (p - 2))

/-- The running maximum before chunk `p`. -/
def bestAt (g : Nat → Nat → F .f32) (b : Nat) : Nat → FVec F SC .f32
  | 0 => broadcast SC (Scalar.ofBits .f32 0xFF800000#32)
  | p + 1 => maximumf (bestAt g b p) (scoreAt g b p)

/-- Its chunk. -/
def tidAt (g : Nat → Nat → F .f32) (b : Nat) : Nat → IVec SC 32
  | 0 => broadcast SC 0#32
  | p + 1 => pick (BitVec.ofNat 32 p - 2#32) (bestAt g b p) (scoreAt g b p) (tidAt g b p)

/-- How many lanes chunk `p` scores, as a number. -/
def room (p : Nat) : Nat := if 2 ≤ p then 100000 - (p - 2) * 512 else 0

/-- The program's bound is that number. -/
theorem bound_eq : ∀ p : Fin 198, bound (BitVec.ofNat 32 p.val - 2#32) = BitVec.ofNat 32 (room p.val) := by decide +kernel

/-- Which lanes chunk `p` scores. -/
theorem mask_apply (p : Nat) (hp : p < 198) (i : SC.Idx) :
    cmpi .slt lane (broadcast SC (bound (BitVec.ofNat 32 p - 2#32))) i = BitVec.ofBool (decide ((i 1).val < room p)) := by
  have hi : (i 1).val < 512 := (i 1).isLt
  have hr : room p ≤ 100000 := by unfold room; split <;> omega
  rw [bound_eq ⟨p, hp⟩]
  show BitVec.ofBool ((BitVec.ofNat 32 (0 * SC.size 1 + (i 1).val)).slt (BitVec.ofNat 32 (room p))) = _
  rw [Nat.zero_mul, Nat.zero_add, slt_ofNat _ _ (by omega) (by omega)]

/-- Scores depend on the lanes scored only. -/
theorem score_congr (p : Nat) (hp : p < 198) {w w' x x' : FVec F SC .f32} (hw : ∀ i, (i 1).val < room p → w i = w' i) (hx : ∀ i, (i 1).val < room p → x i = x' i) :
    score (BitVec.ofNat 32 p - 2#32) w x = score (BitVec.ofNat 32 p - 2#32) w' x' := by
  funext i
  unfold score
  show Scalar.select _ _ _ = Scalar.select _ _ _
  rw [mask_apply p hp i]
  by_cases h : (i 1).val < room p
  · show Scalar.select _ (FloatOps.addf (FloatOps.subf _ (FloatOps.log (w i))) (x i)) _ = Scalar.select _ (FloatOps.addf (FloatOps.subf _ (FloatOps.log (w' i))) (x' i)) _
    rw [hw i h, hx i h]
  · rw [decide_eq_false h]; rfl

/-- The state before chunk `p`. -/
structure Inv (g : Nat → Nat → F .f32) (b p : Nat) (st : St F) : Prop where
  jb : st.jb = base (BitVec.ofNat 32 b)
  bits : 1 ≤ p → st.bits = hashAt b (p - 1)
  w : 2 ≤ p → st.w = expo (hashAt b (p - 2))
  best : st.best = bestAt g b p
  tid : st.tid = tidAt g b p

/-- One chunk keeps it, if the slice read is the logits' where it is scored. -/
theorem Inv.step {g : Nat → Nat → F .f32} {b p : Nat} {st : St F} (h : Inv g b p st) (hp : p < 198) {x : FVec F SC .f32}
    (hx : ∀ i, (i 1).val < room p → x i = sliceAt g b (p - 2) i) {q off : BitVec 32} (hq : q = BitVec.ofNat 32 p - 2#32) (hoff : off = BitVec.ofNat 32 p * 512#32) :
    Inv g b (p + 1) (step q off x st) := by
  subst hq hoff
  have hs : score (BitVec.ofNat 32 p - 2#32) st.w x = scoreAt g b p := by
    refine score_congr p hp (fun i hi => ?_) hx
    by_cases h2 : 2 ≤ p
    · rw [h.w h2]
    · unfold room at hi; rw [if_neg h2] at hi; omega
  constructor
  · exact h.jb
  · intro _; show hash (addi st.jb _) = _; rw [h.jb]; rfl
  · intro h2
    show expo st.bits = _
    rw [h.bits (by omega)]; rfl
  · show maximumf st.best (score _ st.w x) = _
    rw [hs, h.best]; rfl
  · show pick _ st.best (score _ st.w x) st.tid = _
    rw [hs, h.best, h.tid]; rfl

/-- The chunk's number, of chunk `v + c` in all. -/
theorem qOf_eq (v c : Nat) : qOf (BitVec.ofNat 32 v) c = BitVec.ofNat 32 (v + c) - 2#32 := by
  unfold qOf; rw [BitVec.ofNat_add]; rfl

/-- Its first counter. -/
theorem offOf_eq (v c : Nat) : offOf (BitVec.ofNat 32 v) c = BitVec.ofNat 32 (v + c) * 512#32 := by
  unfold offOf; rw [BitVec.ofNat_add]; rfl

/-- A block's slices are the logits' where they are scored. -/
theorem Inv.run {g : Nat → Nat → F .f32} {b v : Nat} (hv : v ≤ 99) {x : S32x50688.Idx → F .f32}
    (hx : ∀ n (hn : n < 97) i, (i 1).val < room (v + n + 2) → slice x n hn i = sliceAt g b (v + n) i) :
    (l n : Nat) → (hl : n + l ≤ 97) → {st : St F} → Inv g b (v + n + 2) st → Inv g b (v + n + 2 + l) (run x (BitVec.ofNat 32 v) l n hl st)
  | 0, _, _, _, h => h
  | l + 1, n, hl, st, h => by
    unfold Chunk.run
    have h1 := h.step (by omega) (x := slice x n (by omega)) (fun i hi => hx n (by omega) i hi) (qOf_eq v (n + 2)) (offOf_eq v (n + 2))
    have h2 := Inv.run hv hx l (n + 1) (by omega) h1
    have e : v + n + 2 + (l + 1) = v + (n + 1) + 2 + l := by omega
    rw [e]; exact h2

/-- A block of the logits on block row `b` and grid column `s`: the logits wherever the column exists. -/
def IsBlock (g : Nat → Nat → F .f32) (b s : Nat) (x : S32x50688.Idx → F .f32) : Prop :=
  ∀ y, 50688 * s + (y 1).val < 100000 → x y = g (32 * b + (y 0).val) (50688 * s + (y 1).val)

/-- A block's slice. -/
theorem IsBlock.slice {g : Nat → Nat → F .f32} {b s : Nat} {x : S32x50688.Idx → F .f32} (h : IsBlock g b s x) (n : Nat) (hn : n < 97) (i : SC.Idx)
    (hi : (i 1).val < room (99 * s + n + 2)) : slice x n hn i = sliceAt g b (99 * s + n) i := by
  unfold room at hi
  rw [if_pos (by omega)] at hi
  have e0 : (((Rect.unit (s := S32x50688) ![0, n * 512] S32x512.size (xbox n hn)).emb i) 0).val = (i 0).val := by
    simp [Rect.emb, Rect.unit]
  have e1 : (((Rect.unit (s := S32x50688) ![0, n * 512] S32x512.size (xbox n hn)).emb i) 1).val = n * 512 + (i 1).val := by
    simp [Rect.emb, Rect.unit]
  unfold Chunk.slice sliceAt
  rw [h _ (by rw [e1]; omega), e0, e1]
  congr 1; omega

/-- The kept columns of a block's first half. -/
theorem IsBlock.half0 {g : Nat → Nat → F .f32} {b : Nat} {x : S32x50688.Idx → F .f32} (h : IsBlock g b 0 x) : half0 (lastTwo x) = sliceAt g b 97 := by
  funext i
  have hi : (i 1).val < 512 := (i 1).isLt
  unfold Chunk.half0 lastTwo sliceAt
  have e0 : (((Rect.unit (s := S32x50688) ![0, 49664] S32x1024.size inb_S32x50688_S32x1024_0_49664).emb ((Rect.unit (s := S32x1024) ![0, 0] S32x512.size inb_S32x1024_S32x512_0_0).emb i)) 0).val = (i 0).val := by
    simp [Rect.emb, Rect.unit]
  have e1 : (((Rect.unit (s := S32x50688) ![0, 49664] S32x1024.size inb_S32x50688_S32x1024_0_49664).emb ((Rect.unit (s := S32x1024) ![0, 0] S32x512.size inb_S32x1024_S32x512_0_0).emb i)) 1).val = 49664 + (i 1).val := by
    simp [Rect.emb, Rect.unit]
  rw [h _ (by rw [e1]; omega), e0, e1]
  congr 1; omega

/-- Of its second half. -/
theorem IsBlock.half1 {g : Nat → Nat → F .f32} {b : Nat} {x : S32x50688.Idx → F .f32} (h : IsBlock g b 0 x) : half1 (lastTwo x) = sliceAt g b 98 := by
  funext i
  have hi : (i 1).val < 512 := (i 1).isLt
  unfold Chunk.half1 lastTwo sliceAt
  have e0 : (((Rect.unit (s := S32x50688) ![0, 49664] S32x1024.size inb_S32x50688_S32x1024_0_49664).emb ((Rect.unit (s := S32x1024) ![0, 512] S32x512.size inb_S32x1024_S32x512_0_512).emb i)) 0).val = (i 0).val := by
    simp [Rect.emb, Rect.unit]
  have e1 : (((Rect.unit (s := S32x50688) ![0, 49664] S32x1024.size inb_S32x50688_S32x1024_0_49664).emb ((Rect.unit (s := S32x1024) ![0, 512] S32x512.size inb_S32x1024_S32x512_0_512).emb i)) 1).val = 49664 + (512 + (i 1).val) := by
    simp [Rect.emb, Rect.unit]
  rw [h _ (by rw [e1]; omega), e0, e1]
  congr 1; omega

/-- After the first grid column: the state before chunk 99, whatever the buffers held. -/
theorem body_first {g : Nat → Nat → F .f32} (i : grid0.Coords) (hi : (i 1).val = 0) {x : S32x50688.Idx → F .f32} (h : IsBlock g (i 0).val 0 x)
    (xp : S32x1024.Idx → F .f32) (st : St F) : Inv g (i 0).val 99 (bodySt i x xp st) := by
  have hf : isFirst i := by unfold isFirst; rw [hi]; decide
  have h0 : Inv g (i 0).val 0 (initSt i st) := by
    unfold initSt; rw [if_pos hf]
    exact ⟨rfl, fun h => absurd h (by omega), fun h => absurd h (by omega), rfl, rfl⟩
  have hv : v4Of i = BitVec.ofNat 32 0 := by unfold v4Of; rw [hi]; rfl
  unfold bodySt
  rw [hv]
  have h1 := h0.step (by omega) (x := half0 xp) (fun i hi => by unfold room at hi; rw [if_neg (by omega)] at hi; omega) (qOf_eq 0 0) (offOf_eq 0 0)
  have h2 := h1.step (by omega) (x := half1 xp) (fun i hi => by unfold room at hi; rw [if_neg (by omega)] at hi; omega) (qOf_eq 0 1) (offOf_eq 0 1)
  exact Inv.run (v := 0) (by omega) (fun n hn j hj => h.slice n hn j hj) 97 0 (by omega) h2

/-- After the second: the state before chunk 198. -/
theorem body_second {g : Nat → Nat → F .f32} (i : grid0.Coords) (hi : (i 1).val = 1) {x x0 : S32x50688.Idx → F .f32} (h : IsBlock g (i 0).val 1 x)
    (hx0 : IsBlock g (i 0).val 0 x0) (st : St F) (hs : Inv g (i 0).val 99 st) : Inv g (i 0).val 198 (bodySt i x (lastTwo x0) st) := by
  have hf : ¬isFirst i := by unfold isFirst; rw [hi]; decide
  have h0 : initSt i st = st := by unfold initSt; rw [if_neg hf]
  have hv : v4Of i = BitVec.ofNat 32 99 := by unfold v4Of; rw [hi]; rfl
  unfold bodySt
  rw [hv, h0, hx0.half0, hx0.half1]
  have h1 := hs.step (by omega) (x := sliceAt g (i 0).val 97) (fun i hi => rfl) (qOf_eq 99 0) (offOf_eq 99 0)
  have h2 := h1.step (by omega) (x := sliceAt g (i 0).val 98) (fun i hi => rfl) (qOf_eq 99 1) (offOf_eq 99 1)
  exact Inv.run (v := 99) (by omega) (fun n hn j hj => h.slice n hn j hj) 97 0 (by omega) h2

end Cert.KernelIdeal.Chunk

end
-- ==== Proof.Oblig.lean ====
/- The proof data of the kernel's pipeline, and what its body does at each grid point. -/
module

public import proofs.«01_k».proof.Proof.Gen.KernelIdeal.Frame
public import proofs.«01_k».proof.Proof.BodyEq
public import proofs.«01_k».proof.Proof.Track

@[expose] public section

set_option maxRecDepth 65536

noncomputable section

namespace Cert.KernelIdeal.Chunk

open Idealize.ShloMosaic Cert.KernelIdeal Cert.Sampler
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The index of a row and a column. -/
def at2 (r c : Nat) (hr : r < 512) (hc : c < 100000) : S512x100000.Idx := fun a => match a with
  | ⟨0, _⟩ => ⟨r, hr⟩
  | ⟨1, _⟩ => ⟨c, hc⟩

/-- The logits as the region finds them, by row and column. -/
def logits (c : Dev nD) (r k : Nat) : F .f32 :=
  if h : r < 512 ∧ k < 100000 then (Gen.V m c main_v0 : S512x100000.Idx → F .f32) (at2 r k h.1 h.2) else Scalar.ofBits .f32 0#32

/-- The grid's points: block row `t / 2`, column `t % 2`. -/
theorem coords_eq : ∀ t : Fin grid0.N, (grid0.coords t 0).val = t.val / 2 ∧ (grid0.coords t 1).val = t.val % 2 := by decide +kernel

/-- Between the two columns of a block row: the state before chunk 99, the block's last columns kept. -/
def mid (c : Dev nD) (b : Nat) : sProp 𝕄 :=
  iprop(∃ (st : St F) (x0 : S32x50688.Idx → F .f32), ⌜Inv (logits m c) b 99 st ∧ IsBlock (logits m c) b 0 x0⌝
    ∗ held c (Memref.whole cc0_scratch0) (Memref.whole cc0_scratch1) (Memref.whole cc0_scratch2) (Memref.whole cc0_scratch3) (Memref.whole cc0_scratch4) st
    ∗ owns (c : Thread nD τ) (Memref.whole cc0_scratch5) fullShare (lastTwo x0 : S32x1024.Idx → Elt F .f32)
    ∗ ∃ r, prngReg c r)

/-- The invariant before point `n`. -/
def inv (c : Dev nD) (n : Nat) : sProp 𝕄 := if n % 2 = 0 then Pipeline.ΦA spec0 c else mid m c (n / 2)

/-- The winners of block row `b`. -/
def tokens (c : Dev nD) (b : Nat) : S32x1.Idx → BitVec 32 := winner (bestAt (logits m c) b 198) (tidAt (logits m c) b 198)

/-- The proof data. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => Scalar.ofBits .f32 0#32) (Gen.iblk m c 0 t)
    | ⟨1, _⟩ => tokens m c (t.val / 2)
  Φ t := inv m c t.val
  q _ := fullShare
  owed _ := 0

/-- A whole buffer at whatever it holds. -/
theorem raw_any (c : Dev nD) (b : Ref sig .tc) : (iprop(∃ f : Buf (Elt F) ((c : Thread nD τ).loc b), ((c : Thread nD τ).loc b) ↦{fullShare} f) : sProp 𝕄)
    = iprop(∃ X : b.ty.Contents (Elt F), owns (c : Thread nD τ) (Memref.whole b) fullShare X) := by
  simp only [owns_whole]

/-- The scratch buffers at whatever they hold are the carried values at some state. -/
theorem scratch_open (c : Dev nD) : (Pipeline.ΦA spec0 c : sProp 𝕄) ⊢ iprop(∃ (st : St F) (xp : S32x1024.Idx → F .f32),
    held c (Memref.whole cc0_scratch0) (Memref.whole cc0_scratch1) (Memref.whole cc0_scratch2) (Memref.whole cc0_scratch3) (Memref.whole cc0_scratch4) st
    ∗ owns (c : Thread nD τ) (Memref.whole cc0_scratch5) fullShare (xp : S32x1024.Idx → Elt F .f32) ∗ ∃ r, prngReg c r) := by
  unfold Pipeline.ΦA
  rw [Gen.scopedRest0_eq, raw_any, raw_any, raw_any, raw_any, raw_any, raw_any]
  iintro ⟨⟨⟨%f0, H0⟩, ⟨%f1, H1⟩, ⟨%f2, H2⟩, ⟨%f3, H3⟩, ⟨%f4, H4⟩, ⟨%f5, H5⟩⟩, Hr⟩
  iexists (⟨f0, f1, f2, f3, f4⟩ : St F)
  iexists f5
  isplitr [H5 Hr]
  · isplitl [H0]; · iexact H0
    isplitl [H1]; · iexact H1
    isplitl [H2]; · iexact H2
    isplitl [H3]; · iexact H3
    iexact H4
  isplitl [H5]; · iexact H5
  iexact Hr

/-- And back. -/
theorem scratch_close (c : Dev nD) (st : St F) (xp : S32x1024.Idx → F .f32) : iprop(
    held c (Memref.whole cc0_scratch0) (Memref.whole cc0_scratch1) (Memref.whole cc0_scratch2) (Memref.whole cc0_scratch3) (Memref.whole cc0_scratch4) st
    ∗ owns (c : Thread nD τ) (Memref.whole cc0_scratch5) fullShare (xp : S32x1024.Idx → Elt F .f32) ∗ ∃ r, prngReg c r) ⊢ (Pipeline.ΦA spec0 c : sProp 𝕄) := by
  unfold Pipeline.ΦA
  rw [Gen.scopedRest0_eq, raw_any, raw_any, raw_any, raw_any, raw_any, raw_any]
  iintro ⟨⟨H0, H1, H2, H3, H4⟩, H5, Hr⟩
  isplitr [Hr]
  · isplitl [H0]; · iexists st.best; iexact H0
    isplitl [H1]; · iexists st.tid; iexact H1
    isplitl [H2]; · iexists st.jb; iexact H2
    isplitl [H3]; · iexists st.bits; iexact H3
    isplitl [H4]; · iexists st.w; iexact H4
    iexists xp; iexact H5
  iexact Hr

/-- Where each point's block of the logits lies, and how much of it the array has. -/
theorem win_eq : ∀ t : Fin grid0.N, win0_0.index t 0 * win0_0.size 0 = 32 * (t.val / 2) ∧ win0_0.index t 1 * win0_0.size 1 = 50688 * (t.val % 2)
    ∧ win0_0.xsize (grid0.coords t) 0 = 32 ∧ win0_0.xsize (grid0.coords t) 1 = (if t.val % 2 = 0 then 50688 else 49312) := by decide +kernel

/-- What a fetch leaves is a block of the logits. -/
theorem isBlock (c : Dev nD) (t : Fin grid0.N) (d : S32x50688.Idx → F .f32) :
    IsBlock (logits m c) (t.val / 2) (t.val % 2) (win0_0.fill (grid0.coords t) d (Gen.iblk m c 0 t)) := by
  intro y hy
  have hN : t.val < 32 := t.isLt
  obtain ⟨e0, e1, x0, x1⟩ := win_eq t
  have hy0 : (y 0).val < 32 := (y 0).isLt
  have hy1 : (y 1).val < 50688 := (y 1).isLt
  have hm : win0_0.moved (grid0.coords t) y = true := by
    rw [win0_0.moved_iff]
    intro a
    match a with
    | ⟨0, _⟩ => show (y 0).val < win0_0.xsize (grid0.coords t) 0; rw [x0]; exact hy0
    | ⟨1, _⟩ =>
      show (y 1).val < win0_0.xsize (grid0.coords t) 1
      rw [x1]
      split
      · exact hy1
      · omega
  unfold Window.fill
  rw [dif_pos hm]
  unfold logits
  rw [dif_pos ⟨by omega, hy⟩]
  unfold Gen.iblk
  refine congrArg (Gen.V m c main_v0 : S512x100000.Idx → F .f32) (funext fun a => ?_)
  match a with
  | ⟨0, _⟩ => exact Fin.ext (by show win0_0.index t 0 * win0_0.size 0 + 1 * (y 0).val = 32 * (t.val / 2) + (y 0).val; rw [e0]; omega)
  | ⟨1, _⟩ => exact Fin.ext (by show win0_0.index t 1 * win0_0.size 1 + 1 * (y 1).val = 50688 * (t.val % 2) + (y 1).val; rw [e1]; omega)

/-- No wait of the body is bounded. -/
abbrev 𝒱₀ : Variants := Variants.none

/-- What runs at a grid point is the generated body there. -/
theorem defs₀_row (t : Fin cfg0.N) : defs₀ (F := F) .tc cfg0.body (cfg0.bodyArgs t (cfg0.slots t)) = Gen.bodyAt0 t := by
  unfold defs₀; rw [Defs.onTc_tc]

/-- The body at point `t`, on the pipeline's buffers. -/
theorem sound (c : Dev nD) (t : Fin cfg0.N) (x : S32x50688.Idx → F .f32) (o : S32x1.Idx → BitVec 32) (xp : S32x1024.Idx → F .f32) (K : PUnit → sProp 𝕄) (st : St F) :
    iprop(owns (c : Thread nD τ) (Gen.st0_0 t) fullShare (x : S32x50688.Idx → Elt F .f32) ∗ owns (c : Thread nD τ) (Gen.st0_1 t) fullShare (o : S32x1.Idx → Elt F .i32)
        ∗ held c (Memref.whole cc0_scratch0) (Memref.whole cc0_scratch1) (Memref.whole cc0_scratch2) (Memref.whole cc0_scratch3) (Memref.whole cc0_scratch4) st
        ∗ owns (c : Thread nD τ) (Memref.whole cc0_scratch5) fullShare (xp : S32x1024.Idx → Elt F .f32)
        ∗ (owns (c : Thread nD τ) (Gen.st0_0 t) fullShare (x : S32x50688.Idx → Elt F .f32)
          ∗ owns (c : Thread nD τ) (Gen.st0_1 t) fullShare (outSt (grid0.coords t) (bodySt (grid0.coords t) x xp st) o : S32x1.Idx → Elt F .i32)
          ∗ held c (Memref.whole cc0_scratch0) (Memref.whole cc0_scratch1) (Memref.whole cc0_scratch2) (Memref.whole cc0_scratch3) (Memref.whole cc0_scratch4) (bodySt (grid0.coords t) x xp st)
          ∗ owns (c : Thread nD τ) (Memref.whole cc0_scratch5) fullShare (lastTwo x : S32x1024.Idx → Elt F .f32) -∗ K ⟨⟩))
      ⊢ wp frame (wpE (defs₀ (F := F)) 𝒱₀ (c : Thread nD τ) none) Set.univ (Gen.bodyAt0 t) K := by
  unfold Gen.bodyAt0
  rw [body_eq]
  exact body_wp 𝒱₀ c Set.univ _ _ _ _ _ _ _ _ (grid0.coords t) x o xp st

/-- What the body is handed at a point fetches the block. -/
theorem before_0 (c : Dev nD) (t : Fin cfg0.N) (d : S32x50688.Idx → F .f32) :
    (dats m 0 c).before 0 t d = win0_0.fill (grid0.coords t) d (Gen.iblk m c 0 t) := by
  unfold Dat.before; rw [if_pos (Gen.fetch0_0 t)]; rfl

/-- The winners are written at the second column of the grid. -/
theorem cond2_iff : ∀ t : Fin grid0.N, k0_cond2 (grid0.coords t) = 1#1 ↔ t.val % 2 = 1 := by decide +kernel

/-- The invariant before a grid point. -/
theorem Φ_pre (c : Dev nD) (t : Fin cfg0.N) : (dats m 0 c).Φ t.castSucc = inv m c t.val := by dsimp only [dats]; rfl
/-- The invariant after it. -/
theorem Φ_post (c : Dev nD) (t : Fin cfg0.N) : (dats m 0 c).Φ t.succ = inv m c (t.val + 1) := by dsimp only [dats]; rfl
/-- A grid point owes nothing new. -/
theorem owes_post (c : Dev nD) (t : Fin cfg0.N) : (dats m 0 c).owesAt () t.succ = ((dats m 0 c).owesAt () t.castSucc : sProp 𝕄) := rfl

/-- What the body is to leave of the block on the part the array has: the block. -/
theorem fill_after (c : Dev nD) (t : Fin cfg0.N) (d : S32x50688.Idx → F .f32) :
    win0_0.fill (grid0.coords t) d (win0_0.cut (grid0.coords t) ((dats m 0 c).after 0 t)) = win0_0.fill (grid0.coords t) d (Gen.iblk m c 0 t) := by
  dsimp only [dats]; rw [win0_0.cut_fill]

/-- A first column's point: from any scratch to the state before chunk 99. -/
theorem body_even (c : Dev nD) (t : Fin cfg0.N) (ht : t.val % 2 = 0) (d0 : S32x50688.Idx → F .f32) (o : S32x1.Idx → BitVec 32) (K : PUnit → sProp 𝕄) :
    iprop(inv m c t.val ∗ owns (c : Thread nD τ) (Gen.st0_0 t) fullShare (win0_0.fill (grid0.coords t) d0 (Gen.iblk m c 0 t) : S32x50688.Idx → Elt F .f32)
        ∗ owns (c : Thread nD τ) (Gen.st0_1 t) fullShare (o : S32x1.Idx → Elt F .i32)
        ∗ (inv m c (t.val + 1) ∗ owns (c : Thread nD τ) (Gen.st0_0 t) fullShare (win0_0.fill (grid0.coords t) d0 (Gen.iblk m c 0 t) : S32x50688.Idx → Elt F .f32)
          ∗ owns (c : Thread nD τ) (Gen.st0_1 t) fullShare (o : S32x1.Idx → Elt F .i32) -∗ K ⟨⟩))
      ⊢ wp frame (wpE (defs₀ (F := F)) 𝒱₀ (c : Thread nD τ) none) Set.univ (Gen.bodyAt0 t) K := by
  have h1 : ¬ k0_cond2 (grid0.coords t) = 1#1 := fun h => by have := (cond2_iff t).mp h; omega
  obtain ⟨hc0, hc1⟩ := coords_eq t
  have hb := isBlock m c t d0
  rw [ht, ← hc0] at hb
  unfold inv
  rw [if_pos ht, if_neg (by omega), show (t.val + 1) / 2 = (grid0.coords t 0).val from by rw [hc0]; omega]
  iintro ⟨HΦ, H0, H1, Hk⟩
  ihave ⟨%st, %xp, Hs, H5, Hr⟩ := (scratch_open c) $$ HΦ
  iapply (sound c t (win0_0.fill (grid0.coords t) d0 (Gen.iblk m c 0 t)) o xp K st)
  isplitl [H0]; · iexact H0
  isplitl [H1]; · iexact H1
  isplitl [Hs]; · iexact Hs
  isplitl [H5]; · iexact H5
  iintro ⟨H0, H1, Hs, H5⟩
  unfold outSt
  rw [if_neg h1]
  iapply Hk
  isplitl [Hs H5 Hr]
  · unfold mid
    iexists _
    iexists (win0_0.fill (grid0.coords t) d0 (Gen.iblk m c 0 t))
    isplitr
    · ipureintro
      exact ⟨body_first (grid0.coords t) (hc1.trans ht) hb xp st, hb⟩
    isplitl [Hs]; · iexact Hs
    isplitl [H5]; · iexact H5
    iexact Hr
  isplitl [H0]; · iexact H0
  iexact H1

/-- A second column's point: from the state before chunk 99 to the winners. -/
theorem body_odd (c : Dev nD) (t : Fin cfg0.N) (ht : t.val % 2 = 1) (d0 : S32x50688.Idx → F .f32) (o : S32x1.Idx → BitVec 32) (K : PUnit → sProp 𝕄) :
    iprop(inv m c t.val ∗ owns (c : Thread nD τ) (Gen.st0_0 t) fullShare (win0_0.fill (grid0.coords t) d0 (Gen.iblk m c 0 t) : S32x50688.Idx → Elt F .f32)
        ∗ owns (c : Thread nD τ) (Gen.st0_1 t) fullShare (o : S32x1.Idx → Elt F .i32)
        ∗ (inv m c (t.val + 1) ∗ owns (c : Thread nD τ) (Gen.st0_0 t) fullShare (win0_0.fill (grid0.coords t) d0 (Gen.iblk m c 0 t) : S32x50688.Idx → Elt F .f32)
          ∗ owns (c : Thread nD τ) (Gen.st0_1 t) fullShare (tokens m c (t.val / 2) : S32x1.Idx → Elt F .i32) -∗ K ⟨⟩))
      ⊢ wp frame (wpE (defs₀ (F := F)) 𝒱₀ (c : Thread nD τ) none) Set.univ (Gen.bodyAt0 t) K := by
  have h1 : k0_cond2 (grid0.coords t) = 1#1 := (cond2_iff t).mpr ht
  obtain ⟨hc0, hc1⟩ := coords_eq t
  have hb := isBlock m c t d0
  rw [ht, ← hc0] at hb
  unfold inv
  rw [if_neg (by omega), if_pos (by omega), ← hc0]
  unfold mid
  iintro ⟨⟨%st, %x0, %hst, Hs, H5, Hr⟩, H0, H1, Hk⟩
  iapply (sound c t (win0_0.fill (grid0.coords t) d0 (Gen.iblk m c 0 t)) o (lastTwo x0) K st)
  isplitl [H0]; · iexact H0
  isplitl [H1]; · iexact H1
  isplitl [Hs]; · iexact Hs
  isplitl [H5]; · iexact H5
  have hf := body_second (grid0.coords t) (hc1.trans ht) hb hst.2 st hst.1
  have ho : outSt (grid0.coords t) (bodySt (grid0.coords t) (win0_0.fill (grid0.coords t) d0 (Gen.iblk m c 0 t)) (lastTwo x0) st) o = tokens m c (grid0.coords t 0).val := by
    unfold outSt tokens; rw [if_pos h1, hf.best, hf.tid]
  rw [ho]
  iintro ⟨H0, H1, Hs, H5⟩
  iapply Hk
  isplitl [Hs H5 Hr]
  · iapply (scratch_close c)
    isplitl [Hs]; · iexact Hs
    isplitl [H5]; · iexact H5
    iexact Hr
  isplitl [H0]; · iexact H0
  iexact H1

/-- The library's body obligation. -/
theorem body_obligation (c : Dev nD) : BodyObligationLoose (dats m 0 c) (defs₀ (F := F)) 𝒱₀ () Set.univ := fun t => by
  rw [Gen.bigSep_W0, Gen.bigSep_W0, defs₀_row]
  have hidle : cfg0.idle 1 (cfg0.grid.coords t) = !(k0_cond2 (grid0.coords t) == 1#1) := rfl
  have hl0 : cfg0.loose 0 = true := by decide +kernel
  have hl1 : cfg0.loose 1 = false := by decide +kernel
  rw [hidle, Φ_pre, Φ_post, owes_post]
  by_cases ht : t.val % 2 = 0
  · have h1 : ¬ k0_cond2 (grid0.coords t) = 1#1 := fun h => by have := (cond2_iff t).mp h; omega
    have hf : (cfg0.win 1).flush t = false := by
      rw [Bool.eq_false_iff]; intro h; have := (Gen.flush0_1 t).mp h; omega
    simp only [beq_eq_false_iff_ne.mpr h1, hf, Bool.not_false, hl0, hl1]
    iintro ⟨HΦ, Ho, ⟨%d0, H0⟩, ⟨%d1, H1⟩⟩
    rw [before_0]
    iapply (body_even m c t ht d0 ((dats m 0 c).before 1 t d1))
    isplitl [HΦ]; · iexact HΦ
    isplitl [H0]; · iexact H0
    isplitl [H1]; · iexact H1
    iintro ⟨HΦ, H0, H1⟩
    isplitl [HΦ]; · iexact HΦ
    isplitl [Ho]; · iexact Ho
    isplitl [H0]
    · iexists d0
      rw [fill_after]
      iexact H0
    iexists d1
    iexact H1
  · have ht : t.val % 2 = 1 := by omega
    have h1 : k0_cond2 (grid0.coords t) = 1#1 := (cond2_iff t).mpr ht
    simp only [h1, beq_self_eq_true, Bool.not_true, hl0, hl1]
    iintro ⟨HΦ, Ho, ⟨%d0, H0⟩, ⟨%d1, H1⟩⟩
    rw [before_0]
    iapply (body_odd m c t ht d0 ((dats m 0 c).before 1 t d1))
    isplitl [HΦ]; · iexact HΦ
    isplitl [H0]; · iexact H0
    isplitl [H1]; · iexact H1
    iintro ⟨HΦ, H0, H1⟩
    isplitl [HΦ]; · iexact HΦ
    isplitl [Ho]; · iexact Ho
    isplitl [H0]
    · iexists d0
      rw [fill_after]
      iexact H0
    dsimp only [dats]
    iexact H1

end Cert.KernelIdeal.Chunk

end
-- ==== Proof.Launched.lean ====
/- The kernel's run: the argument kept, every semaphore at zero, and the result as a function of the logits. -/
module

public import proofs.«01_k».proof.Proof.Oblig
public import Idealize.ShloMosaic.Lib.Pipeline.ValueKit

@[expose] public section

set_option maxRecDepth 65536

noncomputable section

namespace Cert.KernelIdeal.Chunk

open Idealize.ShloMosaic Cert.KernelIdeal Cert.Sampler
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run to the frame's post, the semaphores at zero. -/
theorem run_main [∀ e, Nonempty (Elt F e)] : θ_run defs (onTc (τ := τ) (main (F := F))) (s₀ m ρ) (fun r =>
    Pipeline.FramePost cfgs (dats m) 0 (Pipeline.afterTail₀ cfgs (dats m) 0 (Gen.V0 m) [Gen.hostOps1]) r ∧ r.2.sem = (fun _ => 0)) :=
  Pipeline.θ_run_frame_around_track cfgs (dats m) 0 Gen.launch0 defs₀ 𝒱₀ m ρ main (hbody := body_obligation m)
    (hshare := fun c w => by unfold Dat.share; dsimp only [dats]; split <;> rfl) (howed := fun _ _ => rfl) (V₀ := Gen.V0 m) (opss := [Gen.hostOps1])
    (hsub := Gen.sfx_sub) (hfresh := Gen.sfx_fresh) (hkeep := Gen.sfx_keeps) (hmain := Gen.hmain m 𝒱₀) (hA := fun _ _ => rfl)
    (hin := fun c => by dsimp only [dats]; unfold inv; exact Entails.rfl)
    (hout := fun c => by dsimp only [dats]; unfold inv; exact Entails.rfl)
    (Q' := fun r => Pipeline.FramePost cfgs (dats m) 0 (Pipeline.afterTail₀ cfgs (dats m) 0 (Gen.V0 m) [Gen.hostOps1]) r ∧ r.2.sem = (fun _ => 0))
    (hQ' := fun _ h => h)

/-- The frame claim. -/
theorem frame [∀ e, Nonempty (Elt F e)] : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (Gen.W_main_arg0 m (dats m) c), h.2⟩)
    (run_main m ρ)

/-- All winners: the array the region writes. -/
def tokArr (c : Dev nD) : S512x1.Idx → BitVec 32 := fun i => tokens m c ((i 0).val / 32) (fun a => match a with
  | ⟨0, _⟩ => (⟨(i 0).val % 32, Nat.mod_lt _ (by omega)⟩ : Fin 32)
  | ⟨1, _⟩ => (⟨0, by omega⟩ : Fin 1))

/-- Where the block of winners that a grid point writes begins. -/
theorem win1_eq : ∀ t : Fin grid0.N, win0_1.index t 0 * win0_1.size 0 = 32 * (t.val / 2) := by decide +kernel

/-- The result array after the run. -/
theorem final (c : Dev nD) : (dats m 0 c).arrAt 1 cfg0.N = (tokArr m c : S512x1.Idx → Elt F .i32) := by
  refine (dats m 0 c).arrAt_eq_of_covers 1 _ (by decide +kernel) fun t hf y => ?_
  have e := win1_eq t
  have hy : (y 0).val < 32 := (y 0).isLt
  have hy1 : (y 1).val < 1 := (y 1).isLt
  have e2 : ((((cfg0.win 1).blk t).view.emb y) 0).val = 32 * (t.val / 2) + (y 0).val := by
    show win0_1.index t 0 * win0_1.size 0 + 1 * (y 0).val = _
    rw [e]; omega
  show tokens m c (t.val / 2) y = tokens m c (((((cfg0.win 1).blk t).view.emb y) 0).val / 32) _
  have e3 : ((((cfg0.win 1).blk t).view.emb y) 0).val / 32 = t.val / 2 := by rw [e2]; omega
  refine congr (congrArg (tokens m c) e3.symm) ?_
  funext a
  match a with
  | ⟨0, _⟩ => exact Fin.ext (by show (y 0).val = (((((cfg0.win 1).blk t).view.emb y) 0).val % 32); rw [e2]; omega)
  | ⟨1, _⟩ => exact Fin.ext (by show (y 1).val = 0; omega)

/-- The program's result: the winners, laid out as the tokens. -/
theorem run_value [∀ e, Nonempty (Elt F e)] : θ_run defs (onTc (τ := τ) (main (F := F))) ⟨m, fun _ => 0, ρ⟩ (fun r => ∀ c : Dev nD,
      r.2.mem ((c.tc : Thread nD τ).loc main_v2) = (shapeCast S64x8 (tokArr m c) Gen.shapeCasts_S512x1_S64x8 : S64x8.Idx → Elt F .i32)
      ∧ r.2.mem ((c.tc : Thread nD τ).loc main_arg0) = m ((c.tc : Thread nD τ).loc main_arg0)) :=
  (θ_run defs _ _).mono (fun _ h c => ⟨((h.1 c).2 main_v2 (Pipeline.mem_restRefs_of main_v2 (by decide) (by decide))).trans (by
      unfold Pipeline.afterTail₀
      simp only [List.flatten_cons, List.flatten_nil, List.append_nil, StableHlo.after_cons, StableHlo.after_nil]
      rw [StableHlo.reshape_result]
      funext i
      refine congrArg (fun A : S512x1.Idx → BitVec 32 => shapeCast S64x8 A Gen.shapeCasts_S512x1_S64x8 i) ?_
      exact (Pipeline.withArrays_arr spec0 Gen.launch0.win.arr_inj c _ _ 1).trans (final m c)),
    ((h.1 c).2 main_arg0 (Pipeline.mem_restRefs_of main_arg0 (by decide) (by decide))).trans (Gen.W_main_arg0 m (dats m) c)⟩)
    (run_main m ρ)

/-- The argument's index of a row and a column: row `r` is entry `(r / 8, r % 8)`. -/
def at3 (r k : Nat) (hr : r < 512) (hk : k < 100000) : S64x8x100000.Idx := fun a => match a with
  | ⟨0, _⟩ => (⟨r / 8, by omega⟩ : Fin 64)
  | ⟨1, _⟩ => (⟨r % 8, by omega⟩ : Fin 8)
  | ⟨2, _⟩ => (⟨k, hk⟩ : Fin 100000)

/-- A logit by row and column is an entry of the argument. -/
theorem logits_eq (c : Dev nD) (r k : Nat) (hr : r < 512) (hk : k < 100000) :
    logits m c r k = (m ((c.tc : Thread nD τ).loc main_arg0) : S64x8x100000.Idx → F .f32) (at3 r k hr hk) := by
  unfold logits
  rw [dif_pos ⟨hr, hk⟩]
  entry_read
  refine shapeCast_apply _ Gen.shapeCasts_S64x8x100000_S512x100000 _ _ ?_
  rw [Shape.rowMajor_val_three, Shape.rowMajor_val_two]
  show (r / 8 * 8 + r % 8) * 100000 + k = r * 100000 + k
  omega

/-- The row of the result array of a token. -/
def atRow (i : S64x8.Idx) : S512x1.Idx := fun a => match a with
  | ⟨0, _⟩ => (⟨(i 0).val * 8 + (i 1).val, by have h0 : (i 0).val < 64 := (i 0).isLt; have h1 : (i 1).val < 8 := (i 1).isLt; omega⟩ : Fin 512)
  | ⟨1, _⟩ => (⟨0, by omega⟩ : Fin 1)

/-- A token is the winner of its row. -/
theorem token_eq (c : Dev nD) (i : S64x8.Idx) :
    shapeCast S64x8 (tokArr m c) Gen.shapeCasts_S512x1_S64x8 i = tokArr m c (atRow i) := by
  refine shapeCast_apply _ Gen.shapeCasts_S512x1_S64x8 _ _ ?_
  rw [Shape.rowMajor_val_two, Shape.rowMajor_val_two]
  show ((i 0).val * 8 + (i 1).val) * 1 + 0 = (i 0).val * 8 + (i 1).val
  omega

end Cert.KernelIdeal.Chunk

end
-- ==== Proof.Table.lean ====
/- A line of host operations, each writing the next buffer of a table and reading earlier ones: the contents after the
   line satisfy every operation's own equation. -/
module

public import Idealize.ShloMosaic.Lib.StableHlo.RunHlo

@[expose] public section

namespace Cert.Sampler

open Idealize.ShloMosaic Idealize.ShloMosaic.StableHlo

variable {τ : Topo} {sig : RefSig} {Val : EltTy → Type}

/-- The operations write the buffers numbered `n`, `n + 1`, … in turn, each from buffers of smaller number. -/
def Line : Nat → List (HloOp τ sig Val) → Prop
  | _, [] => True
  | n, op :: ops => (op.bufs ⊆ tcRefs τ sig ∧ op.fresh = ∅ ∧ (∀ b ∈ op.writes, b.idx.val = n)
      ∧ ∀ V V' : Valuation τ sig Val, (∀ b, b.idx.val < n → V b = V' b) → ∀ b ∈ op.writes, op.result V b = op.result V' b)
      ∧ Line (n + 1) ops

/-- Two lines, one after the other. -/
theorem Line.append {l' : List (HloOp τ sig Val)} : ∀ {l : List (HloOp τ sig Val)} {n : Nat}, Line n l → Line (n + l.length) l' → Line n (l ++ l')
  | [], _, _, h' => h'
  | _ :: l, n, h, h' => ⟨h.1, Line.append h.2 (by rw [List.length_cons] at h'; rwa [show n + 1 + l.length = n + (l.length + 1) by omega])⟩

/-- A line touches TensorCore buffers only. -/
theorem Line.sub : ∀ {l : List (HloOp τ sig Val)} {n : Nat}, Line n l → l.Forall fun op => op.bufs ⊆ tcRefs τ sig
  | [], _, _ => trivial
  | _ :: _, _, h => List.forall_cons .. |>.mpr ⟨h.1.1, Line.sub h.2⟩

/-- Every operation of a line determines its result. -/
theorem Line.fresh : ∀ {l : List (HloOp τ sig Val)} {n : Nat}, Line n l → ∀ op ∈ l, op.fresh = ∅
  | _ :: _, _, h, op, ho => by
    rcases List.mem_cons.mp ho with rfl | ho
    · exact h.1.2.1
    · exact Line.fresh h.2 op ho

/-- A line keeps the buffers numbered below it. -/
theorem Line.keep : ∀ {l : List (HloOp τ sig Val)} {n : Nat}, Line n l → ∀ (V : Valuation τ sig Val) (b : DevRef τ sig), b.idx.val < n → after l V b = V b
  | [], _, _, _, _, _ => rfl
  | op :: l, n, h, V, b, hb => by
    rw [after_cons, Line.keep h.2 _ b (by omega), op.result_of_not_mem V fun hm => by have := h.1.2.2.1 b hm; omega]

/-- Every operation of a line leaves the line's final contents as they are: they satisfy its equation. -/
theorem Line.fix : ∀ {l : List (HloOp τ sig Val)} {n : Nat}, Line n l → ∀ (V : Valuation τ sig Val), ∀ op ∈ l, op.result (after l V) = after l V
  | op :: l, n, h, V, o, ho => by
    rcases List.mem_cons.mp ho with rfl | ho
    · funext b
      by_cases hb : b ∈ o.writes
      · have hn := h.1.2.2.1 b hb
        rw [after_cons, Line.keep h.2 _ b (by omega)]
        refine h.1.2.2.2 _ _ (fun b' hb' => ?_) b hb
        rw [Line.keep h.2 _ b' (by omega), o.result_of_not_mem V fun hm => by have := h.1.2.2.1 b' hm; omega]
      · exact o.result_of_not_mem _ hb
    · exact Line.fix h.2 _ o ho

/-- The number of a reference's buffer. -/
abbrev num (y : Ref sig .tc) : Nat := (Proc.devRef (τ := τ) .tc y).idx.val

/-- No operation. -/
theorem Line.nil (n : Nat) : Line n ([] : List (HloOp τ sig Val)) := trivial

/-- A constant ahead of a line. -/
theorem Line.nullary {n : Nat} {l : List (HloOp τ sig Val)} (y : Ref sig .tc) (v : y.ty.Contents Val) (hy) (hn : num (τ := τ) y = n) (h : Line (n + 1) l) :
    Line n (StableHlo.nullary y v hy :: l) :=
  ⟨⟨nullary_bufs_sub .., rfl, fun b hb => by rw [nullary_writes, Finset.mem_singleton] at hb; exact hb ▸ hn,
    fun V V' _ b hb => by
      rw [nullary_writes, Finset.mem_singleton] at hb; subst hb; rw [nullary_result, nullary_result]⟩, h⟩

/-- An operation of one operand ahead of a line. -/
theorem Line.unary {n : Nat} {l : List (HloOp τ sig Val)} (x y : Ref sig .tc) (f : x.ty.Contents Val → y.ty.Contents Val) (hx hy)
    (hn : num (τ := τ) y = n) (hxn : num (τ := τ) x < n) (h : Line (n + 1) l) : Line n (StableHlo.unary x y f hx hy :: l) :=
  ⟨⟨unary_bufs_sub .., rfl, fun b hb => by rw [unary_writes, Finset.mem_singleton] at hb; exact hb ▸ hn,
    fun V V' hV b hb => by
      rw [unary_writes, Finset.mem_singleton] at hb; subst hb; rw [unary_result, unary_result, hV _ hxn]⟩, h⟩

/-- An operation of two operands ahead of a line. -/
theorem Line.binary {n : Nat} {l : List (HloOp τ sig Val)} (a b y : Ref sig .tc) (f : a.ty.Contents Val → b.ty.Contents Val → y.ty.Contents Val) (ha hb hy)
    (hn : num (τ := τ) y = n) (han : num (τ := τ) a < n) (hbn : num (τ := τ) b < n) (h : Line (n + 1) l) : Line n (StableHlo.binary a b y f ha hb hy :: l) :=
  ⟨⟨binary_bufs_sub .., rfl, fun b hb => by rw [binary_writes, Finset.mem_singleton] at hb; exact hb ▸ hn,
    fun V V' hV b hb => by
      rw [binary_writes, Finset.mem_singleton] at hb; subst hb; rw [binary_result, binary_result, hV _ han, hV _ hbn]⟩, h⟩

/-- An operation of four operands ahead of a line. -/
theorem Line.quaternary {n : Nat} {l : List (HloOp τ sig Val)} (a b c e y : Ref sig .tc)
    (f : a.ty.Contents Val → b.ty.Contents Val → c.ty.Contents Val → e.ty.Contents Val → y.ty.Contents Val) (ha hb hc he hy)
    (hn : num (τ := τ) y = n) (han : num (τ := τ) a < n) (hbn : num (τ := τ) b < n) (hcn : num (τ := τ) c < n) (hen : num (τ := τ) e < n)
    (h : Line (n + 1) l) : Line n (StableHlo.quaternary a b c e y f ha hb hc he hy :: l) :=
  ⟨⟨quaternary_bufs_sub .., rfl, fun b hb => by rw [quaternary_writes, Finset.mem_singleton] at hb; exact hb ▸ hn,
    fun V V' hV b hb => by
      rw [quaternary_writes, Finset.mem_singleton] at hb; subst hb
      rw [quaternary_result, quaternary_result, hV _ han, hV _ hbn, hV _ hcn, hV _ hen]⟩, h⟩

/-- Every operation's equation, as one conjunction. -/
def Eqs (W : Valuation τ sig Val) : List (HloOp τ sig Val) → Prop
  | [] => True
  | op :: l => op.result W = W ∧ Eqs W l

/-- The conjunction from one equation for each. -/
theorem Eqs.of_forall (W : Valuation τ sig Val) : ∀ l : List (HloOp τ sig Val), (∀ op ∈ l, op.result W = W) → Eqs W l
  | [], _ => trivial
  | op :: l, h => ⟨h op List.mem_cons_self, Eqs.of_forall W l fun o ho => h o (List.mem_cons_of_mem _ ho)⟩

/-- A constant's equation. -/
theorem nullary_eq {W : Valuation τ sig Val} {y : Ref sig .tc} {v : y.ty.Contents Val} {hy} (h : (StableHlo.nullary y v hy).result W = W) :
    W (Proc.devRef .tc y) = v := by rw [← h, nullary_result]

/-- The equation of an operation of one operand. -/
theorem unary_eq {W : Valuation τ sig Val} {x y : Ref sig .tc} {f : x.ty.Contents Val → y.ty.Contents Val} {hx hy}
    (h : (StableHlo.unary x y f hx hy).result W = W) : W (Proc.devRef .tc y) = f (W (Proc.devRef .tc x)) :=
  (congrFun h (Proc.devRef .tc y)).symm.trans (unary_result ..)

/-- The equation of an operation of two operands. -/
theorem binary_eq {W : Valuation τ sig Val} {a b y : Ref sig .tc} {f : a.ty.Contents Val → b.ty.Contents Val → y.ty.Contents Val} {ha hb hy}
    (h : (StableHlo.binary a b y f ha hb hy).result W = W) :
    W (Proc.devRef .tc y) = f (W (Proc.devRef .tc a)) (W (Proc.devRef .tc b)) :=
  (congrFun h (Proc.devRef .tc y)).symm.trans (binary_result ..)

/-- The equation of an operation of four operands. -/
theorem quaternary_eq {W : Valuation τ sig Val} {a b c e y : Ref sig .tc}
    {f : a.ty.Contents Val → b.ty.Contents Val → c.ty.Contents Val → e.ty.Contents Val → y.ty.Contents Val} {ha hb hc he hy}
    (h : (StableHlo.quaternary a b c e y f ha hb hc he hy).result W = W) :
    W (Proc.devRef .tc y) = f (W (Proc.devRef .tc a)) (W (Proc.devRef .tc b)) (W (Proc.devRef .tc c)) (W (Proc.devRef .tc e)) :=
  (congrFun h (Proc.devRef .tc y)).symm.trans (quaternary_result ..)

end Cert.Sampler

end
-- ==== Proof.RefOps.lean ====
/- The reference's run: its operations as one line, read off the program. -/
module

public import proofs.«01_k».proof.Proof.Gen.ReferenceIdeal
public import proofs.«01_k».proof.Proof.Table

@[expose] public section

set_option maxRecDepth 65536
set_option maxHeartbeats 4000000

noncomputable section

namespace Cert.ReferenceIdeal.Line

open Idealize.ShloMosaic Idealize.ShloMosaic.TcCoe Idealize.ShloMosaic.StableHlo Idealize.SL.Sem Cert.ReferenceIdeal Cert.Sampler

variable {F : FTy → Type} [FloatOps F]

/-- One operation alone. -/
theorem last_seq (op : HloOp τ sig (Elt F)) :
    IsSeq (nD := nD) (Λ := Pipeline.Sig Λ₀ (Fin 0) fun p => (pcfgs (F := F) p).Adm) (hlo rfl op fun _ => .ret ⟨⟩) [op] := rfl

/-- The operations of the first stretch of @main. -/
def part0 : {l : List (HloOp τ sig (Elt F)) // main_part0 (F := F) 0 = seq l} := by
  apply Subtype.mk
  unfold main_part0
  repeat (first | exact last_seq _ | apply IsSeq.cons)
/-- Of the second. -/
def part1 : {l : List (HloOp τ sig (Elt F)) // main_part1 (F := F) 0 = seq l} := by
  apply Subtype.mk
  unfold main_part1
  repeat (first | exact last_seq _ | apply IsSeq.cons)
/-- Of the third. -/
def part2 : {l : List (HloOp τ sig (Elt F)) // main_part2 (F := F) 0 = seq l} := by
  apply Subtype.mk
  unfold main_part2
  repeat (first | exact last_seq _ | apply IsSeq.cons)
/-- Of the fourth. -/
def part3 : {l : List (HloOp τ sig (Elt F)) // main_part3 (F := F) 0 = seq l} := by
  apply Subtype.mk
  unfold main_part3
  repeat (first | exact last_seq _ | apply IsSeq.cons)
/-- The operations of the call of `argmax`: the positions, the two starting values, the greatest score and its position. -/
def call : List (HloOp τ sig (Elt F)) :=
  [ nullary main_call0_v0 (iotaInDim S64x8x100000 32 2), nullary main_call0_cst (constant S_ .f32 0xFF800000#32),
    nullary main_call0_c (constantI S_ 32 0#32),
    quaternary main_v202 main_call0_v0 main_call0_cst main_call0_c main_call0_v1_0
      (fun x y u v j => (Host.argReduce reducer_argmax_f32_i32 x y u v Gen.reducesTo_S64x8x100000_S64x8_d2 Gen.h_S_ j).1),
    quaternary main_v202 main_call0_v0 main_call0_cst main_call0_c main_v203
      (fun x y u v j => (Host.argReduce reducer_argmax_f32_i32 x y u v Gen.reducesTo_S64x8x100000_S64x8_d2 Gen.h_S_ j).2) ]

/-- The call is these five. -/
theorem call_seq : IsSeq (fn_argmax.body (F := F) (.of main_v202) main_call0 >>= fun _ => pure ⟨⟩) call := rfl

/-- The operations of the last stretch, the call at its end. -/
def part4 : {l : List (HloOp τ sig (Elt F)) // main_part4 (F := F) 0 = seq l} := by
  apply Subtype.mk
  unfold main_part4
  repeat (first | exact call_seq | apply IsSeq.cons)

/-- All operations of @main. -/
abbrev ops : List (HloOp τ sig (Elt F)) := part0.1 ++ (part1.1 ++ (part2.1 ++ (part3.1 ++ part4.1)))

/-- The program is its operations in sequence. -/
theorem main_eq (c : Dev nD) : main (F := F) c = seq ops := by
  unfold ops
  simp only [seq_append, ← part0.2, ← part1.2, ← part2.2, ← part3.2, ← part4.2]
  rfl

end Cert.ReferenceIdeal.Line

end
-- ==== Proof.RefLine.lean ====
/- The reference's run: every operation's equation holds of the final contents. -/
module

public import proofs.«01_k».proof.Proof.RefOps
public import Idealize.ShloMosaic.Lib.Quiescent

@[expose] public section

set_option maxRecDepth 65536
set_option maxHeartbeats 4000000

noncomputable section

namespace Cert.ReferenceIdeal.Line

open Idealize.ShloMosaic Idealize.ShloMosaic.TcCoe Idealize.ShloMosaic.StableHlo Idealize.SL.Sem Cert.ReferenceIdeal Cert.Sampler

variable {F : FTy → Type} [FloatOps F]

/-- Stretch 0 of the operations is a line from the buffer numbered 1 on. -/
theorem line0 : Line 1 (part0 (F := F)).1 := by
  unfold part0
  repeat (first
    | with_reducible exact Line.nil _
    | (with_reducible refine Line.nullary _ _ _ ?_ ?_) <;> [rfl; skip]
    | (with_reducible refine Line.unary _ _ _ _ _ ?_ ?_ ?_) <;> [rfl; decide; skip]
    | (with_reducible refine Line.binary _ _ _ _ _ _ _ ?_ ?_ ?_ ?_) <;> [rfl; decide; decide; skip]
    | (with_reducible refine Line.quaternary _ _ _ _ _ _ _ _ _ _ _ ?_ ?_ ?_ ?_ ?_ ?_) <;> [rfl; decide; decide; decide; decide; skip])

/-- Stretch 1 of the operations is a line from the buffer numbered 61 on. -/
theorem line1 : Line 61 (part1 (F := F)).1 := by
  unfold part1
  repeat (first
    | with_reducible exact Line.nil _
    | (with_reducible refine Line.nullary _ _ _ ?_ ?_) <;> [rfl; skip]
    | (with_reducible refine Line.unary _ _ _ _ _ ?_ ?_ ?_) <;> [rfl; decide; skip]
    | (with_reducible refine Line.binary _ _ _ _ _ _ _ ?_ ?_ ?_ ?_) <;> [rfl; decide; decide; skip]
    | (with_reducible refine Line.quaternary _ _ _ _ _ _ _ _ _ _ _ ?_ ?_ ?_ ?_ ?_ ?_) <;> [rfl; decide; decide; decide; decide; skip])

/-- Stretch 2 of the operations is a line from the buffer numbered 121 on. -/
theorem line2 : Line 121 (part2 (F := F)).1 := by
  unfold part2
  repeat (first
    | with_reducible exact Line.nil _
    | (with_reducible refine Line.nullary _ _ _ ?_ ?_) <;> [rfl; skip]
    | (with_reducible refine Line.unary _ _ _ _ _ ?_ ?_ ?_) <;> [rfl; decide; skip]
    | (with_reducible refine Line.binary _ _ _ _ _ _ _ ?_ ?_ ?_ ?_) <;> [rfl; decide; decide; skip]
    | (with_reducible refine Line.quaternary _ _ _ _ _ _ _ _ _ _ _ ?_ ?_ ?_ ?_ ?_ ?_) <;> [rfl; decide; decide; decide; decide; skip])

/-- Stretch 3 of the operations is a line from the buffer numbered 181 on. -/
theorem line3 : Line 181 (part3 (F := F)).1 := by
  unfold part3
  repeat (first
    | with_reducible exact Line.nil _
    | (with_reducible refine Line.nullary _ _ _ ?_ ?_) <;> [rfl; skip]
    | (with_reducible refine Line.unary _ _ _ _ _ ?_ ?_ ?_) <;> [rfl; decide; skip]
    | (with_reducible refine Line.binary _ _ _ _ _ _ _ ?_ ?_ ?_ ?_) <;> [rfl; decide; decide; skip]
    | (with_reducible refine Line.quaternary _ _ _ _ _ _ _ _ _ _ _ ?_ ?_ ?_ ?_ ?_ ?_) <;> [rfl; decide; decide; decide; decide; skip])

/-- Stretch 4 of the operations is a line from the buffer numbered 241 on. -/
theorem line4 : Line 241 (part4 (F := F)).1 := by
  unfold part4 call
  repeat (first
    | with_reducible exact Line.nil _
    | (with_reducible refine Line.nullary _ _ _ ?_ ?_) <;> [rfl; skip]
    | (with_reducible refine Line.unary _ _ _ _ _ ?_ ?_ ?_) <;> [rfl; decide; skip]
    | (with_reducible refine Line.binary _ _ _ _ _ _ _ ?_ ?_ ?_ ?_) <;> [rfl; decide; decide; skip]
    | (with_reducible refine Line.quaternary _ _ _ _ _ _ _ _ _ _ _ ?_ ?_ ?_ ?_ ?_ ?_) <;> [rfl; decide; decide; decide; decide; skip])

/-- The whole of @main is a line from the buffer after the argument on. -/
theorem line : Line 1 (ops (F := F)) :=
  line0.append (line1.append (line2.append (line3.append line4)))

/-- What the operations leave of the contents at launch. -/
abbrev final (m : (ℓ : Loc nD τ sig) → Buf (Elt F) ℓ) (c : Dev nD) : Valuation τ sig (Elt F) := after ops (launchContents m c)

/-- The reference's run: every buffer ends at what the operations leave. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final m c (Proc.devRef .tc b) :=
  run_hlo defs main main_eq (by decide) (by decide) line.sub line.fresh m ρ

/-- The argument is left alone. -/
theorem final_arg (m : (ℓ : Loc nD τ sig) → Buf (Elt F) ℓ) (c : Dev nD) :
    final m c (Proc.devRef .tc main_arg0) = m ((c.tc : Thread nD τ).loc main_arg0) :=
  line.keep _ _ (by decide)

/-- Every execution ends with the argument as it was and no counter raised. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c main_arg0).trans (final_arg m c), sem_eq_zero_of_no_sems (by decide) r.2⟩) (run m ρ)

/-- The final contents satisfy the equations of a stretch. -/
theorem eqs_of {l : List (HloOp τ sig (Elt F))} (hl : l ⊆ ops) (m : (ℓ : Loc nD τ sig) → Buf (Elt F) ℓ) (c : Dev nD) : Eqs (final m c) l :=
  Eqs.of_forall _ l fun op ho => line.fix _ op (hl ho)

end Cert.ReferenceIdeal.Line

end
-- ==== Proof.Draw.lean ====
/- One draw over the extended reals: the Threefry hash of one counter, the Gumbel noise of one hash, and what the
   kernel's chunk computes read at one element. -/
module

public import proofs.«01_k».proof.Proof.Payload
public import Idealize.ShloMosaic.PureOps.Ideal.Laws

@[expose] public section

noncomputable section

namespace Cert.Sampler

open Idealize.ShloMosaic

/-- Rotation to the left by `l`, where `l + r = 32`. -/
def rot (x l r : BitVec 32) : BitVec 32 := x <<< l ||| x >>> r

/-- One round of the hash on its two words. -/
def mix (l r : BitVec 32) (s : BitVec 32 × BitVec 32) : BitVec 32 × BitVec 32 := (s.1 + s.2, (s.1 + s.2) ^^^ rot s.2 l r)

/-- Four rounds with the given rotations. -/
def mix4 (a a' b b' c c' d d' : BitVec 32) (s : BitVec 32 × BitVec 32) : BitVec 32 × BitVec 32 := mix d d' (mix c c' (mix b b' (mix a a' s)))

/-- Four rounds by the first rotations. -/
def mixA (s : BitVec 32 × BitVec 32) : BitVec 32 × BitVec 32 := mix4 13#32 19#32 15#32 17#32 26#32 6#32 6#32 26#32 s

/-- Four rounds by the second. -/
def mixB (s : BitVec 32 × BitVec 32) : BitVec 32 × BitVec 32 := mix4 17#32 15#32 29#32 3#32 16#32 16#32 24#32 8#32 s

/-- The first four, spelled out. -/
theorem mixA_eq (s : BitVec 32 × BitVec 32) : mix4 13#32 19#32 15#32 17#32 26#32 6#32 6#32 26#32 s = mixA s := rfl

/-- The second four, spelled out. -/
theorem mixB_eq (s : BitVec 32 × BitVec 32) : mix4 17#32 15#32 29#32 3#32 16#32 16#32 24#32 8#32 s = mixB s := rfl

/-- Key words added. -/
def key (a b : BitVec 32) (s : BitVec 32 × BitVec 32) : BitVec 32 × BitVec 32 := (s.1 + a, s.2 + b)

/-- The Threefry hash of the words 0 and `a` (the key's words added) under the key (0, 42), both words combined. -/
def threefry (a : BitVec 32) : BitVec 32 :=
  let s := key 466689008#32 5#32 (mixA (key 42#32 466689012#32 (mixB (key 0#32 45#32 (mixA (key 466689008#32 2#32 (mixB (key 42#32 466689009#32 (mixA (0#32, a))))))))))
  s.1 ^^^ s.2

/-- The Gumbel noise of a hash: its upper 23 bits as a number of [0, 1), at least the least positive one, under `-log (-log ·)`. -/
def noise (w : BitVec 32) : EReal :=
  -Ideal.log (-Ideal.log (max (Ideal.ofBits .f32 (w >>> 9#32 ||| 1065353216#32) - Ideal.ofBits .f32 0x3F800000#32) (Ideal.ofBits .f32 0x00800000#32)))

/-- A shift by less than the width is the same on every unit. -/
theorem shl_lt (u : ArithUnit) (x y : BitVec 32) (h : y.toNat < 32) : IntOp.shli u x y = x <<< y := if_pos h

/-- A shift to the right likewise. -/
theorem shr_lt (u : ArithUnit) (x y : BitVec 32) (h : y.toNat < 32) : IntOp.shrui u x y = x >>> y := if_pos h

/-- The kernel's rotation at an element. -/
theorem rotl_apply (x : IVec SC 32) (l r : BitVec 32) (hl : l.toNat < 32) (hr : r.toNat < 32) (i : SC.Idx) : rotl x l r i = rot (x i) l r := by
  show IntOp.ori (IntOp.shli _ (x i) l) (IntOp.shrui _ (x i) r) = _
  rw [shl_lt _ _ _ hl, shr_lt _ _ _ hr]; rfl

/-- One of the kernel's rounds at an element. -/
theorem mix_apply (x0 x1 : IVec SC 32) (l r : BitVec 32) (hl : l.toNat < 32) (hr : r.toNat < 32) (i : SC.Idx) :
    (addi x0 x1 i, xori (addi x0 x1) (rotl x1 l r) i) = mix l r (x0 i, x1 i) := by
  show (x0 i + x1 i, (x0 i + x1 i) ^^^ rotl x1 l r i) = (_, _ ^^^ rot (x1 i) l r)
  rw [rotl_apply _ _ _ hl hr]

/-- Key words added at an element. -/
theorem key_apply (x0 x1 : IVec SC 32) (a b : BitVec 32) (i : SC.Idx) : (addi x0 (broadcast SC a) i, addi x1 (broadcast SC b) i) = key a b (x0 i, x1 i) := rfl

/-- What follows four of the kernel's rounds has to be known only of arrays that are the four rounds at the element. -/
theorem rounds_apply (x0 x1 : IVec SC 32) (a a' b b' c c' d d' : BitVec 32) (k : IVec SC 32 → IVec SC 32 → IVec SC 32) (i : SC.Idx) (t : BitVec 32)
    (ha : a.toNat < 32 ∧ a'.toNat < 32) (hb : b.toNat < 32 ∧ b'.toNat < 32) (hc : c.toNat < 32 ∧ c'.toNat < 32) (hd : d.toNat < 32 ∧ d'.toNat < 32)
    (h : ∀ y0 y1 : IVec SC 32, (y0 i, y1 i) = mix4 a a' b b' c c' d d' (x0 i, x1 i) → k y0 y1 i = t) : rounds x0 x1 a a' b b' c c' d d' k i = t := by
  unfold rounds
  refine h _ _ ?_
  exact (mix_apply _ _ d d' hd.1 hd.2 i).trans (congrArg (mix d d') ((mix_apply _ _ c c' hc.1 hc.2 i).trans (congrArg (mix c c')
    ((mix_apply _ _ b b' hb.1 hb.2 i).trans (congrArg (mix b b') (mix_apply _ _ a a' ha.1 ha.2 i))))))

/-- The kernel's hash at an element. Its first round is by hand, on a first word of zero. -/
theorem hash_apply (a : IVec SC 32) (i : SC.Idx) : hash a i = threefry (a i) := by
  have h0 : (a i, xori (rotl a 13#32 19#32) a i) = mix 13#32 19#32 (0#32, a i) := by
    show (a i, rotl a 13#32 19#32 i ^^^ a i) = (0#32 + a i, (0#32 + a i) ^^^ rot (a i) 13#32 19#32)
    rw [rotl_apply _ _ _ (by decide) (by decide), BitVec.zero_add, BitVec.xor_comm]
  unfold hash
  rw [show Scalar.addi 466689008#32 1#32 = 466689009#32 from by decide, show Scalar.addi 42#32 3#32 = 45#32 from by decide,
    show Scalar.addi 466689008#32 4#32 = 466689012#32 from by decide]
  refine rounds_apply _ _ _ _ _ _ _ _ _ _ _ i _ (by decide) (by decide) (by decide) (by decide) fun p0 p1 hp => ?_
  refine rounds_apply _ _ _ _ _ _ _ _ _ _ _ i _ (by decide) (by decide) (by decide) (by decide) fun q0 q1 hq => ?_
  refine rounds_apply _ _ _ _ _ _ _ _ _ _ _ i _ (by decide) (by decide) (by decide) (by decide) fun r0 r1 hr => ?_
  refine rounds_apply _ _ _ _ _ _ _ _ _ _ _ i _ (by decide) (by decide) (by decide) (by decide) fun s0 s1 hs => ?_
  have e1 := (mix_apply _ _ 6#32 26#32 (by decide) (by decide) i).trans (congrArg (mix 6#32 26#32) ((mix_apply _ _ 26#32 6#32 (by decide) (by decide) i).trans
    (congrArg (mix 26#32 6#32) ((mix_apply _ _ 15#32 17#32 (by decide) (by decide) i).trans (congrArg (mix 15#32 17#32) h0)))))
  replace hp := hp.trans (mixB_eq _)
  replace hq := hq.trans (mixA_eq _)
  replace hr := hr.trans (mixB_eq _)
  replace hs := hs.trans (mixA_eq _)
  replace e1 := e1.trans (mixA_eq _)
  rw [key_apply, e1] at hp
  rw [key_apply, hp] at hq
  have e4 : (q0 i, addi q1 (broadcast SC 45#32) i) = key 0#32 45#32 (q0 i, q1 i) :=
    Prod.ext (BitVec.add_zero (q0 i)).symm rfl
  rw [e4, hq] at hr
  rw [key_apply, hr] at hs
  have e5 := key_apply s0 s1 466689008#32 5#32 i
  rw [hs] at e5
  have e6 := congrArg (fun s : BitVec 32 × BitVec 32 => s.1 ^^^ s.2) e5
  dsimp only at e6
  unfold threefry
  dsimp only
  rw [← e6]
  rfl

/-- The noise the kernel adds to a logit is the hash's. -/
theorem gumbel_apply (h : IVec SC 32) (i : SC.Idx) :
    subf (broadcast SC (Scalar.ofBits (F := Ideal) .f32 0x00000000#32)) (log (expo (F := Ideal) h)) i = noise (h i) := by
  show Ideal.ofBits .f32 0x00000000#32 - Ideal.log (Ideal.ofBits .f32 0x00000000#32 - Ideal.log (max (Ideal.ofBits .f32 (IntOp.shrui _ (h i) 9#32 ||| 1065353216#32) - Ideal.ofBits .f32 0x3F800000#32) (Ideal.ofBits .f32 0x00800000#32))) = _
  rw [shr_lt _ _ _ (by decide), Ideal.ofBits_zero_f32, zero_sub, zero_sub]
  rfl

/-- The pattern of `-∞`. -/
theorem bot_bits : Ideal.ofBits .f32 0xFF800000#32 = ⊥ := by simp [Ideal.ofBits, Ideal.ieee]

/-- The score of a counter with its logit. -/
def drawn (g : Nat → Nat → EReal) (r k : Nat) : EReal := noise (threefry (BitVec.ofNat 32 (r * 100000 + k + 42))) + g r k

end Cert.Sampler

end
-- ==== Proof.First.lean ====
/- The first place of the largest of finitely many values, as a pair kept while they are met one after the other. -/
module

public import Mathlib.Data.EReal.Basic

@[expose] public section

namespace Cert.Sampler

/-- `k` is the first place of the largest of the values `f` below `n`. -/
def IsFirst (n : Nat) (f : Nat → EReal) (k : Nat) : Prop := k < n ∧ (∀ j, j < n → f j ≤ f k) ∧ ∀ j, j < k → f j < f k

/-- There is one such place. -/
theorem IsFirst.unique {n : Nat} {f : Nat → EReal} {k k' : Nat} (h : IsFirst n f k) (h' : IsFirst n f k') : k = k' := by
  rcases lt_trichotomy k k' with hl | he | hl
  · exact absurd (h'.2.2 k hl) (not_lt.mpr (h.2.1 k' h'.1))
  · exact he
  · exact absurd (h.2.2 k' hl) (not_lt.mpr (h'.2.1 k h.1))

/-- The value `v` and the place `k` lead the places `S`: none of them has a larger value, or the same value at an earlier place.
    The place's own value is at least `v` (at the start `v` is `-∞` and the place is any). -/
def Lead (n : Nat) (f : Nat → EReal) (S : Nat → Prop) (v : EReal) (k : Nat) : Prop :=
  k < n ∧ v ≤ f k ∧ ∀ j, S j → f j < v ∨ (f j = v ∧ k ≤ j)

/-- What leads all places is the first place of the largest. -/
theorem Lead.first {n : Nat} {f : Nat → EReal} {S : Nat → Prop} {v : EReal} {k : Nat} (h : Lead n f S v k) (hS : ∀ j, j < n → S j) : IsFirst n f k := by
  obtain ⟨hk, hv, hl⟩ := h
  have hle : ∀ j, j < n → f j ≤ v := fun j hj => (hl j (hS j hj)).elim le_of_lt fun e => le_of_eq e.1
  refine ⟨hk, fun j hj => (hle j hj).trans hv, fun j hj => ?_⟩
  rcases hl j (hS j (hj.trans hk)) with h | ⟨_, h⟩
  · exact h.trans_le hv
  · omega

/-- Fewer places are led too. -/
theorem Lead.mono {n : Nat} {f : Nat → EReal} {S S' : Nat → Prop} {v : EReal} {k : Nat} (h : Lead n f S v k) (hS : ∀ j, S' j → S j) : Lead n f S' v k :=
  ⟨h.1, h.2.1, fun j hj => h.2.2 j (hS j hj)⟩

/-- A smaller value, or the same at a later place, changes nothing. -/
theorem Lead.keep {n : Nat} {f : Nat → EReal} {S : Nat → Prop} {v : EReal} {k : Nat} (h : Lead n f S v k) {k' : Nat}
    (hk : f k' < v ∨ (f k' = v ∧ k ≤ k')) : Lead n f (fun j => S j ∨ j = k') v k :=
  ⟨h.1, h.2.1, fun j hj => hj.elim (h.2.2 j) fun e => e ▸ hk⟩

/-- A larger value, or the same at an earlier place, leads. -/
theorem Lead.take {n : Nat} {f : Nat → EReal} {S : Nat → Prop} {v : EReal} {k : Nat} (h : Lead n f S v k) {k' : Nat} (hn : k' < n)
    (hk : v < f k' ∨ (v = f k' ∧ k' ≤ k)) : Lead n f (fun j => S j ∨ j = k') (f k') k' := by
  refine ⟨hn, le_rfl, fun j hj => ?_⟩
  rcases hj with hj | rfl
  · rcases h.2.2 j hj with h1 | ⟨h1, h2⟩
    · exact .inl (hk.elim h1.trans fun e => e.1 ▸ h1)
    · rcases hk with hk | ⟨e, hk⟩
      · exact .inl (h1 ▸ hk)
      · exact .inr ⟨h1.trans e, hk.trans h2⟩
  · exact .inr ⟨rfl, le_rfl⟩

/-- A step that prefers the larger value, and of equal ones the earlier place: the reducer of an arg-max. -/
def Prefers (r : EReal × BitVec 32 → EReal × BitVec 32 → EReal × BitVec 32) : Prop :=
  ∀ a b, r a b = if b.1 < a.1 then a else if a.1 = b.1 then (b.1, if a.2.slt b.2 then a.2 else b.2) else b

/-- Folding such a step over a list of values with their places, from `-∞` at place 0, ends at the pair that leads the list. -/
theorem foldl_lead {n : Nat} (hn : n ≤ 2 ^ 31) (f : Nat → EReal) {r : EReal × BitVec 32 → EReal × BitVec 32 → EReal × BitVec 32} (hr : Prefers r)
    (slt_ofNat : ∀ a b : Nat, a < 2 ^ 31 → b < 2 ^ 31 → (BitVec.ofNat 32 a).slt (BitVec.ofNat 32 b) = decide (a < b)) :
    ∀ (l : List (EReal × BitVec 32)) (S : Nat → Prop) (v : EReal) (k : Nat), Lead n f S v k →
      (∀ p ∈ l, ∃ j, j < n ∧ p = (f j, BitVec.ofNat 32 j)) →
      ∃ k', (l.foldl r (v, BitVec.ofNat 32 k)).2 = BitVec.ofNat 32 k' ∧
        Lead n f (fun j => S j ∨ (f j, BitVec.ofNat 32 j) ∈ l ∧ j < n) (l.foldl r (v, BitVec.ofNat 32 k)).1 k'
  | [], S, v, k, h, _ => ⟨k, rfl, h.mono fun j hj => hj.elim id fun h => absurd h.1 List.not_mem_nil⟩
  | p :: l, S, v, k, h, hl => by
    obtain ⟨j, hj, rfl⟩ := hl p List.mem_cons_self
    have hk := h.1
    have go : ∀ v' k', r (v, BitVec.ofNat 32 k) (f j, BitVec.ofNat 32 j) = (v', BitVec.ofNat 32 k') → Lead n f (fun i => S i ∨ i = j) v' k' →
        ∃ k'', (List.foldl r (v, BitVec.ofNat 32 k) ((f j, BitVec.ofNat 32 j) :: l)).2 = BitVec.ofNat 32 k'' ∧
          Lead n f (fun i => S i ∨ (f i, BitVec.ofNat 32 i) ∈ (f j, BitVec.ofNat 32 j) :: l ∧ i < n)
            (List.foldl r (v, BitVec.ofNat 32 k) ((f j, BitVec.ofNat 32 j) :: l)).1 k'' := fun v' k' e h' => by
      rw [List.foldl_cons, e]
      obtain ⟨k'', e1, h1⟩ := foldl_lead hn f hr slt_ofNat l _ v' k' h' fun p hp => hl p (List.mem_cons_of_mem _ hp)
      refine ⟨k'', e1, h1.mono fun i hi => ?_⟩
      rcases hi with hi | ⟨hi, hin⟩
      · exact .inl (.inl hi)
      · rcases List.mem_cons.mp hi with e | hi
        · have e2 : (BitVec.ofNat 32 i).toNat = (BitVec.ofNat 32 j).toNat := congrArg (fun p : EReal × BitVec 32 => p.2.toNat) e
          rw [BitVec.toNat_ofNat, BitVec.toNat_ofNat, Nat.mod_eq_of_lt (by omega), Nat.mod_eq_of_lt (by omega)] at e2
          exact .inl (.inr e2)
        · exact .inr ⟨hi, hin⟩
    have e := hr (v, BitVec.ofNat 32 k) (f j, BitVec.ofNat 32 j)
    dsimp only at e
    by_cases h1 : f j < v
    · rw [if_pos h1] at e
      exact go v k e (h.keep (.inl h1))
    · rw [if_neg h1] at e
      by_cases h2 : v = f j
      · rw [if_pos h2, slt_ofNat k j (by omega) (by omega)] at e
        by_cases h3 : k < j
        · rw [if_pos (by simpa using h3)] at e
          exact go (f j) k e (h2 ▸ h.keep (.inr ⟨h2.symm, h3.le⟩))
        · rw [if_neg (by simpa using h3)] at e
          exact go (f j) j e (h.take hj (.inr ⟨h2, by omega⟩))
      · rw [if_neg h2] at e
        exact go (f j) j e (h.take hj (.inl (lt_of_le_of_ne (not_lt.mp h1) h2)))

end Cert.Sampler

end
-- ==== Proof.Lane.lean ====
/- The kernel's lanes and winners over the extended reals: a lane's best leads its columns, a row's winner is the first
   column of the row's greatest score. -/
module

public import proofs.«01_k».proof.Proof.Launched
public import proofs.«01_k».proof.Proof.Draw
public import proofs.«01_k».proof.Proof.First

@[expose] public section

set_option maxRecDepth 65536

noncomputable section

namespace Cert.KernelIdeal.Chunk

open Idealize.ShloMosaic Cert.KernelIdeal Cert.Sampler

variable [Facts]
open Facts₀ Facts

/-- The counter of a lane as one number. -/
theorem counter_nat (b r l q : Nat) :
    (BitVec.ofNat 32 b * 32#32 + BitVec.ofNat 32 r) * 100000#32 + BitVec.ofNat 32 l + 42#32 + BitVec.ofNat 32 q * 512#32
      = BitVec.ofNat 32 ((32 * b + r) * 100000 + (512 * q + l) + 42) := by
  have e : (32 * b + r) * 100000 + (512 * q + l) + 42 = (b * 32 + r) * 100000 + l + 42 + q * 512 := by omega
  rw [e, BitVec.ofNat_add, BitVec.ofNat_add, BitVec.ofNat_add, BitVec.ofNat_mul, BitVec.ofNat_add, BitVec.ofNat_mul, BitVec.ofNat_mul]

/-- The row of a lane. -/
theorem iota0_apply (h) (i : SC.Idx) : iota .tc SC 32 [0] h i = BitVec.ofNat 32 (i 0).val := by
  show BitVec.ofNat 32 (0 * SC.size 0 + (i 0).val) = _
  rw [Nat.zero_mul, Nat.zero_add]

/-- The column of a lane. -/
theorem iota1_apply (h) (i : SC.Idx) : iota .tc SC 32 [1] h i = BitVec.ofNat 32 (i 1).val := by
  show BitVec.ofNat 32 (0 * SC.size 1 + (i 1).val) = _
  rw [Nat.zero_mul, Nat.zero_add]

/-- A lane's counter. -/
theorem counter_apply (b q : Nat) (i : SC.Idx) : addi (base (BitVec.ofNat 32 b)) (broadcast SC (BitVec.ofNat 32 q * 512#32)) i
    = BitVec.ofNat 32 ((32 * b + (i 0).val) * 100000 + (512 * q + (i 1).val) + 42) := by
  unfold base
  simp only [addi, muli, IntOp.addi, IntOp.muli, Scalar.muli, broadcast, iota0_apply, iota1_apply]
  rw [iota0_apply, iota1_apply]
  exact counter_nat b (i 0).val (i 1).val q

/-- A selection by false. -/
theorem select_false {α : Type} (x y : α) : Scalar.select (BitVec.ofBool false) x y = y := rfl

/-- A selection by true. -/
theorem select_true {α : Type} (x y : α) : Scalar.select (BitVec.ofBool true) x y = x := rfl

/-- The score of a chunk at a lane. -/
theorem score_apply (q : BitVec 32) (w x : FVec Ideal SC .f32) (i : SC.Idx) : score (F := Ideal) q w x i
    = Scalar.select (cmpi .slt lane (broadcast SC (bound q)) i)
      ((subf (broadcast SC (Scalar.ofBits (F := Ideal) .f32 0x00000000#32)) (log w) i : EReal) + x i) (Ideal.ofBits .f32 0xFF800000#32) := rfl

/-- The hash of a chunk at a lane. -/
theorem hashAt_apply (b q : Nat) (i : SC.Idx) : hashAt b q i = threefry (BitVec.ofNat 32 ((32 * b + (i 0).val) * 100000 + (512 * q + (i 1).val) + 42)) := by
  unfold hashAt
  rw [hash_apply, counter_apply]

/-- A score of the kernel is the draw's, inside the vocabulary. -/
theorem scoreAt_apply (g : Nat → Nat → EReal) (b p : Nat) (hp : p < 198) (i : SC.Idx) :
    scoreAt (F := Ideal) g b p i = if (i 1).val < room p then drawn g (32 * b + (i 0).val) (512 * (p - 2) + (i 1).val) else ⊥ := by
  unfold scoreAt
  rw [score_apply, mask_apply p hp i, gumbel_apply, hashAt_apply, bot_bits]
  by_cases h : (i 1).val < room p
  · rw [decide_eq_true h, if_pos h, select_true]
    unfold drawn sliceAt
    rfl
  · rw [decide_eq_false h, if_neg h, select_false]

/-- The columns a lane has scored before chunk `p`. -/
def seen (l p j : Nat) : Prop := ∃ q, q + 2 < p ∧ j = 512 * q + l ∧ j < 100000

/-- The larger of two scores moved exactly when the second is larger. -/
theorem pick_apply (q : BitVec 32) (best z : FVec Ideal SC .f32) (tid : IVec SC 32) (i : SC.Idx) :
    pick q best z tid i = if best i < z i then q else tid i := by
  show Scalar.select (BitVec.ofBool (decide (max (best i) (z i) ≠ best i))) q (tid i) = _
  by_cases h : (best i : EReal) < z i
  · rw [if_pos h, decide_eq_true (by rw [max_eq_right h.le]; exact h.ne')]; rfl
  · rw [if_neg h, decide_eq_false (by rw [max_eq_left (not_lt.mp h)]; exact not_not.mpr rfl)]; rfl

/-- A lane's best and its column lead what the lane has scored. -/
theorem lane_lead (g : Nat → Nat → EReal) (b : Nat) (i : SC.Idx) : ∀ p, p ≤ 198 → ∃ t, tidAt (F := Ideal) g b p i = BitVec.ofNat 32 t ∧ t ≤ p - 2 ∧
    Lead 100000 (drawn g (32 * b + (i 0).val)) (seen (i 1).val p) (bestAt (F := Ideal) g b p i) (512 * t + (i 1).val)
  | 0, _ => by
    have hi : (i 1).val < 512 := (i 1).isLt
    refine ⟨0, rfl, le_rfl, by omega, ?_, fun j ⟨q, hq, _⟩ => absurd hq (by omega)⟩
    show Ideal.ofBits .f32 0xFF800000#32 ≤ _
    rw [bot_bits]; exact bot_le
  | p + 1, hp => by
    obtain ⟨t, ht, htp, h⟩ := lane_lead g b i p (by omega)
    have hi : (i 1).val < 512 := (i 1).isLt
    have hz := scoreAt_apply g b p (by omega) i
    have hb : bestAt (F := Ideal) g b (p + 1) i = max (bestAt (F := Ideal) g b p i) (scoreAt (F := Ideal) g b p i) := rfl
    have ht' : tidAt (F := Ideal) g b (p + 1) i = _ := pick_apply _ _ _ _ i
    rw [hb, ht', hz]
    by_cases hr : (i 1).val < room p
    · rw [if_pos hr]
      unfold room at hr
      have h2 : 2 ≤ p := by by_contra h2; rw [if_neg h2] at hr; omega
      rw [if_pos h2] at hr
      have hS : ∀ j, seen (i 1).val (p + 1) j → seen (i 1).val p j ∨ j = 512 * (p - 2) + (i 1).val := fun j ⟨q, hq, e, hj⟩ => by
        by_cases hqp : q + 2 < p
        · exact .inl ⟨q, hqp, e, hj⟩
        · exact .inr (by rw [e, show q = p - 2 by omega])
      by_cases hlt : bestAt (F := Ideal) g b p i < drawn g (32 * b + (i 0).val) (512 * (p - 2) + (i 1).val)
      · rw [if_pos hlt, max_eq_right hlt.le]
        refine ⟨p - 2, ?_, by omega, (h.take (by omega) (.inl hlt)).mono hS⟩
        apply BitVec.eq_of_toNat_eq
        simp only [BitVec.toNat_sub, BitVec.toNat_ofNat]
        omega
      · rw [if_neg hlt, max_eq_left (not_lt.mp hlt), ht]
        refine ⟨t, rfl, by omega, (h.keep ?_).mono hS⟩
        rcases lt_or_eq_of_le (not_lt.mp hlt) with h1 | h1
        · exact .inl h1
        · exact .inr ⟨h1, by omega⟩
    · rw [if_neg hr, if_neg not_lt_bot, max_eq_left bot_le, ht]
      refine ⟨t, rfl, by omega, h.mono fun j ⟨q, hq, e, hj⟩ => ⟨q, ?_, e, hj⟩⟩
      by_contra hqp
      unfold room at hr
      rw [if_pos (by omega)] at hr
      have : q = p - 2 := by omega
      subst this
      omega

/-- The signed minimum of finitely many small numbers is one of them, or the start, and none is less. -/
theorem fold_min {ι : Type} [DecidableEq ι] (op : BitVec 32 → BitVec 32 → BitVec 32) [Std.Commutative op] [Std.Associative op]
    (hop : ∀ x y, op x y = if x.slt y then x else y) (v0 : Nat) (h0 : v0 < 2 ^ 31) (v : ι → Nat) (hv : ∀ x, v x < 2 ^ 31) (s : Finset ι) :
    ∃ w, s.fold op (BitVec.ofNat 32 v0) (fun x => BitVec.ofNat 32 (v x)) = BitVec.ofNat 32 w ∧ w < 2 ^ 31 ∧ (∀ x ∈ s, w ≤ v x) ∧ (w = v0 ∨ ∃ x ∈ s, w = v x) := by
  induction s using Finset.induction with
  | empty => exact ⟨v0, rfl, h0, fun x hx => absurd hx (Finset.notMem_empty x), .inl rfl⟩
  | insert a s ha ih =>
    obtain ⟨w, e, hw, hle, hor⟩ := ih
    rw [Finset.fold_insert ha, e, hop, slt_ofNat _ _ (hv a) hw]
    by_cases h : v a < w
    · rw [if_pos (by simpa using h)]
      refine ⟨v a, rfl, hv a, fun x hx => ?_, .inr ⟨a, Finset.mem_insert_self a s, rfl⟩⟩
      rcases Finset.mem_insert.mp hx with rfl | hx
      · exact le_rfl
      · exact h.le.trans (hle x hx)
    · rw [if_neg (by simpa using h)]
      refine ⟨w, rfl, hw, fun x hx => ?_, hor.imp id fun ⟨x, hx, e⟩ => ⟨x, Finset.mem_insert_of_mem hx, e⟩⟩
      rcases Finset.mem_insert.mp hx with rfl | hx
      · exact not_lt.mp h
      · exact hle x hx

/-- A row of the winners as the two folds over its lanes. -/
theorem winner_apply (best : FVec Ideal SC .f32) (tid : IVec SC 32) (i : S32x1.Idx) :
    ∃ at_ : Fin 512 → SC.Idx, (∀ l, (at_ l 0).val = (i 0).val ∧ (at_ l 1).val = l.val) ∧
      winner best tid i = (Finset.univ : Finset (Fin 512)).fold (IKind.op .minsi) 2147483647#32 (fun l =>
        Scalar.select (Ideal.cmp .oeq (best (at_ l)) ((Finset.univ : Finset (Fin 512)).fold max (Ideal.ofBits .f32 0xFF800000#32) fun l' => best (at_ l')))
          (IntOp.shli .vector (tid (at_ l)) 9#32 + BitVec.ofNat 32 (0 * 512 + l.val)) 100000#32) := by
  have hi1 : (i 1).val < 1 := (i 1).isLt
  let j : S32.Idx := fun a => match a with | ⟨0, _⟩ => i 0
  have hc : ∀ {α : Type} (x : S32.Idx → α) (n : S32x1.Idx), (n 0).val = (i 0).val → shapeCast S32x1 x shapeCasts_S32_S32x1 n = x j := fun x n hn => by
    refine shapeCast_apply _ shapeCasts_S32_S32x1 _ _ ?_
    have hn1 : (n 1).val < 1 := (n 1).isLt
    rw [Shape.rowMajor_val_one, Shape.rowMajor_val_two]
    show (i 0).val = (n 0).val * 1 + (n 1).val
    omega
  have hl : ∀ l : Fin 512, (reduces_S32x512_S32.lift j l 0).val = (i 0).val ∧ (reduces_S32x512_S32.lift j l 1).val = l.val := fun l => ⟨rfl, rfl⟩
  refine ⟨fun l => reduces_S32x512_S32.lift j l, hl, ?_⟩
  have hm : multiReduction .maximumf [1] S32 best 0xFF800000#32 reduces_S32x512_S32 (.inl rfl) rfl j
      = (Finset.univ : Finset (Fin 512)).fold max (Ideal.ofBits .f32 0xFF800000#32) fun l' => best (reduces_S32x512_S32.lift j l') :=
    Ideal.multiReduction_maximumf_single _ _ _ _ _ _
  refine ((hc _ i rfl).trans (multiReductionI_eq_fold _ _ _ _ _ _)).trans ((reduces_S32x512_S32.fold_filter_drop_single (IKind.op .minsi) _ _ j).trans ?_)
  refine Finset.fold_congr fun l _ => ?_
  refine congrArg (fun M : EReal => Scalar.select (Ideal.cmp .oeq (best (reduces_S32x512_S32.lift j l)) M) _ _) ?_
  exact ((broadcastTo_apply _ broadcasts_S32x1_S32x512 (reduces_S32x512_S32.lift j l) i (fun a => match a with
    | ⟨0, _⟩ => rfl
    | ⟨1, _⟩ => by show (i 1).val = 0; omega)).trans (hc _ i rfl)).trans hm

/-- The winner of a row is the first column of the row's greatest score. -/
theorem winner_first (g : Nat → Nat → EReal) (b : Nat) (i : S32x1.Idx) :
    ∃ k, winner (bestAt (F := Ideal) g b 198) (tidAt (F := Ideal) g b 198) i = BitVec.ofNat 32 k ∧ IsFirst 100000 (drawn g (32 * b + (i 0).val)) k := by
  obtain ⟨at_, hat, e⟩ := winner_apply (bestAt (F := Ideal) g b 198) (tidAt (F := Ideal) g b 198) i
  choose t ht htp hlead using fun l => lane_lead g b (at_ l) 198 le_rfl
  simp only [(hat _).1, (hat _).2] at hlead
  generalize hM : (Finset.univ : Finset (Fin 512)).fold max (Ideal.ofBits .f32 0xFF800000#32) (fun l' => bestAt (F := Ideal) g b 198 (at_ l')) = M at e
  have hle : ∀ l, bestAt (F := Ideal) g b 198 (at_ l) ≤ M := fun l => by
    rw [← hM]; exact (Finset.le_fold_max _).mpr (.inr ⟨l, Finset.mem_univ l, le_rfl⟩)
  obtain ⟨l0, hl0⟩ : ∃ l, bestAt (F := Ideal) g b 198 (at_ l) = M := by
    rcases (Finset.le_fold_max _).mp hM.ge with h | ⟨l, _, h⟩
    · exact ⟨0, le_antisymm (hle 0) (by rw [bot_bits] at h; exact h.trans bot_le)⟩
    · exact ⟨l, le_antisymm (hle l) h⟩
  classical
  have hv : ∀ l : Fin 512, Scalar.select (Ideal.cmp .oeq (bestAt (F := Ideal) g b 198 (at_ l)) M)
      (IntOp.shli .vector (tidAt (F := Ideal) g b 198 (at_ l)) 9#32 + BitVec.ofNat 32 (0 * 512 + l.val)) 100000#32
      = BitVec.ofNat 32 (if bestAt (F := Ideal) g b 198 (at_ l) = M then 512 * t l + l.val else 100000) := fun l => by
    show Scalar.select (BitVec.ofBool (decide _)) _ _ = _
    by_cases h : bestAt (F := Ideal) g b 198 (at_ l) = M
    · rw [decide_eq_true h, if_pos h, ht, shl_lt _ _ _ (by decide)]
      show BitVec.ofNat 32 (t l) <<< 9 + BitVec.ofNat 32 (0 * 512 + l.val) = _
      apply BitVec.eq_of_toNat_eq
      have h1 := htp l
      have h2 := l.isLt
      simp only [BitVec.toNat_add, BitVec.toNat_shiftLeft, BitVec.toNat_ofNat, Nat.shiftLeft_eq]
      omega
    · rw [decide_eq_false h, if_neg h]; rfl
  rw [e]
  simp only [hv]
  obtain ⟨w, ew, _, hmin, hor⟩ := fold_min (IKind.op .minsi) (fun _ _ => rfl) 2147483647 (by decide)
    (fun l : Fin 512 => if bestAt (F := Ideal) g b 198 (at_ l) = M then 512 * t l + l.val else 100000)
    (fun l => by have h1 := htp l; have h2 := l.isLt; split <;> omega) Finset.univ
  have hw0 := hmin l0 (Finset.mem_univ _)
  rw [if_pos hl0] at hw0
  have hk0 := (hlead l0).1
  obtain ⟨l, hl, hw⟩ : ∃ l, bestAt (F := Ideal) g b 198 (at_ l) = M ∧ w = 512 * t l + l.val := by
    rcases hor with h | ⟨l, _, h⟩
    · omega
    · by_cases hb : bestAt (F := Ideal) g b 198 (at_ l) = M
      · exact ⟨l, hb, by rw [if_pos hb] at h; exact h⟩
      · rw [if_neg hb] at h; omega
  refine ⟨w, ew, Lead.first (S := fun j => j < 100000) (v := M) ⟨by rw [hw]; exact (hlead l).1, by rw [hw, ← hl]; exact (hlead l).2.1, fun j hj => ?_⟩ fun _ h => h⟩
  have hj5 : j % 512 < 512 := Nat.mod_lt _ (by decide)
  have hs : seen (⟨j % 512, hj5⟩ : Fin 512).val 198 j := ⟨j / 512, by omega, by show j = 512 * (j / 512) + j % 512; omega, hj⟩
  rcases (hlead ⟨j % 512, hj5⟩).2.2 j hs with h | ⟨h, hk⟩
  · exact .inl (h.trans_le (hle _))
  · rcases lt_or_eq_of_le (hle ⟨j % 512, hj5⟩) with h1 | h1
    · exact .inl (h ▸ h1)
    · have := hmin ⟨j % 512, hj5⟩ (Finset.mem_univ _)
      rw [if_pos h1] at this
      exact .inr ⟨h.trans h1, this.trans hk⟩

end Cert.KernelIdeal.Chunk

end
-- ==== Proof.RefDraw.lean ====
/- The reference's scores: its hash words, noise and scores at one element, from the equations of its operations. -/
module

public import proofs.«01_k».proof.Proof.RefLine
public import proofs.«01_k».proof.Proof.Draw
public import Idealize.ShloMosaic.Lib.IdealHost

@[expose] public section

set_option maxRecDepth 65536
set_option maxHeartbeats 4000000

noncomputable section

namespace Cert.ReferenceIdeal.Line

open Idealize.ShloMosaic Idealize.ShloMosaic.TcCoe Idealize.ShloMosaic.StableHlo Cert.ReferenceIdeal Cert.Sampler

/-- The shape of the logits. -/
abbrev SR : Shape := S64x8x100000

/-- A round of the reference, from the equations of its nine operations. -/
theorem round_eq {x0 x1 n0 b s b' t o n1 : IVec SR 32} {c c' : IVec S_ 32} {h h'} (l r : BitVec 32) (hl : l.toNat < 32) (hr : r.toNat < 32)
    (e0 : n0 = addi x0 x1) (e1 : c = constantI S_ 32 l) (e2 : b = broadcastInDim SR ![] h c) (e3 : s = Host.shli x1 b)
    (e4 : c' = constantI S_ 32 r) (e5 : b' = broadcastInDim SR ![] h' c') (e6 : t = Host.shrui x1 b') (e7 : o = ori s t) (e8 : n1 = xori n0 o)
    (i : SR.Idx) : (n0 i, n1 i) = mix l r (x0 i, x1 i) := by
  subst e8 e7 e6 e5 e4 e3 e2 e1 e0
  show (x0 i + x1 i, (x0 i + x1 i) ^^^ (IntOp.shli _ (x1 i) l ||| IntOp.shrui _ (x1 i) r)) = _
  rw [shl_lt _ _ _ hl, shr_lt _ _ _ hr]; rfl

/-- An array plus a constant, from the equations of the broadcast and the sum. -/
theorem plus_eq {x b n : IVec SR 32} {c : IVec S_ 32} {h} {a : BitVec 32} (e : c = constantI S_ 32 a) (e1 : b = broadcastInDim SR ![] h c) (e2 : n = addi x b)
    (i : SR.Idx) : n i = x i + a := by
  subst e2 e1 e; rfl

/-- Key words added to both words, the second in two steps. -/
theorem keyed {x0 x1 n0 m n1 a b b' d : BitVec 32} (h0 : n0 = x0 + a) (h1 : m = x1 + b) (h2 : n1 = m + b') (hd : b + b' = d) :
    (n0, n1) = key a d (x0, x1) :=
  Prod.ext h0 (by rw [h2, h1, BitVec.add_assoc, hd]; rfl)

variable {W : Valuation τ sig (Elt Ideal)}

/-- The key's third word. -/
theorem third (h0 : Eqs W (part0 (F := Ideal)).1) : (W main_v13 : IVec S_ 32) = constantI S_ 32 466689008#32 := by
  unfold part0 at h0
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, -⟩ := h0
  refine (binary_eq a20).trans ?_
  rw [binary_eq a18, nullary_eq a16, nullary_eq a17, nullary_eq a19]
  exact funext fun _ => (by decide : (0#32 ^^^ 42#32) ^^^ 466688986#32 = 466689008#32)

/-- The first four rounds. -/
theorem rounds0 (h0 : Eqs W (part0 (F := Ideal)).1) (h1 : Eqs W (part1 (F := Ideal)).1) (i : SR.Idx) :
    ((W main_v39 : IVec SR 32) i, (W main_v45 : IVec SR 32) i) = mixA ((W main_v15 : IVec SR 32) i, (W main_v17 : IVec SR 32) i) := by
  unfold part0 at h0
  unfold part1 at h1
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, -⟩ := h0
  obtain ⟨b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, -⟩ := h1
  have r1 := round_eq 13#32 19#32 (by decide) (by decide) (binary_eq a27) (nullary_eq a28) (unary_eq a29) (binary_eq a30) (nullary_eq a31) (unary_eq a32) (binary_eq a33) (binary_eq a34) (binary_eq a35) i
  have r2 := round_eq 15#32 17#32 (by decide) (by decide) (binary_eq a36) (nullary_eq a37) (unary_eq a38) (binary_eq a39) (nullary_eq a40) (unary_eq a41) (binary_eq a42) (binary_eq a43) (binary_eq a44) i
  have r3 := round_eq 26#32 6#32 (by decide) (by decide) (binary_eq a45) (nullary_eq a46) (unary_eq a47) (binary_eq a48) (nullary_eq a49) (unary_eq a50) (binary_eq a51) (binary_eq a52) (binary_eq a53) i
  have r4 := round_eq 6#32 26#32 (by decide) (by decide) (binary_eq a54) (nullary_eq a55) (unary_eq a56) (binary_eq a57) (nullary_eq a58) (unary_eq a59) (binary_eq b0) (binary_eq b1) (binary_eq b2) i
  exact r4.trans (congrArg (mix 6#32 26#32) (r3.trans (congrArg (mix 26#32 6#32) (r2.trans (congrArg (mix 15#32 17#32) r1)))))

/-- The second four. -/
theorem rounds1 (h1 : Eqs W (part1 (F := Ideal)).1) (i : SR.Idx) :
    ((W main_v73 : IVec SR 32) i, (W main_v79 : IVec SR 32) i) = mixB ((W main_v47 : IVec SR 32) i, (W main_v51 : IVec SR 32) i) := by
  unfold part1 at h1
  obtain ⟨b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, -⟩ := h1
  have r1 := round_eq 17#32 15#32 (by decide) (by decide) (binary_eq b11) (nullary_eq b12) (unary_eq b13) (binary_eq b14) (nullary_eq b15) (unary_eq b16) (binary_eq b17) (binary_eq b18) (binary_eq b19) i
  have r2 := round_eq 29#32 3#32 (by decide) (by decide) (binary_eq b20) (nullary_eq b21) (unary_eq b22) (binary_eq b23) (nullary_eq b24) (unary_eq b25) (binary_eq b26) (binary_eq b27) (binary_eq b28) i
  have r3 := round_eq 16#32 16#32 (by decide) (by decide) (binary_eq b29) (nullary_eq b30) (unary_eq b31) (binary_eq b32) (nullary_eq b33) (unary_eq b34) (binary_eq b35) (binary_eq b36) (binary_eq b37) i
  have r4 := round_eq 24#32 8#32 (by decide) (by decide) (binary_eq b38) (nullary_eq b39) (unary_eq b40) (binary_eq b41) (nullary_eq b42) (unary_eq b43) (binary_eq b44) (binary_eq b45) (binary_eq b46) i
  exact r4.trans (congrArg (mix 24#32 8#32) (r3.trans (congrArg (mix 16#32 16#32) (r2.trans (congrArg (mix 29#32 3#32) r1)))))

/-- The third four. -/
theorem rounds2 (h1 : Eqs W (part1 (F := Ideal)).1) (h2 : Eqs W (part2 (F := Ideal)).1) (i : SR.Idx) :
    ((W main_v107 : IVec SR 32) i, (W main_v113 : IVec SR 32) i) = mixA ((W main_v81 : IVec SR 32) i, (W main_v85 : IVec SR 32) i) := by
  unfold part1 at h1
  unfold part2 at h2
  obtain ⟨b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, -⟩ := h1
  obtain ⟨c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, -⟩ := h2
  have r1 := round_eq 13#32 19#32 (by decide) (by decide) (binary_eq b55) (nullary_eq b56) (unary_eq b57) (binary_eq b58) (nullary_eq b59) (unary_eq c0) (binary_eq c1) (binary_eq c2) (binary_eq c3) i
  have r2 := round_eq 15#32 17#32 (by decide) (by decide) (binary_eq c4) (nullary_eq c5) (unary_eq c6) (binary_eq c7) (nullary_eq c8) (unary_eq c9) (binary_eq c10) (binary_eq c11) (binary_eq c12) i
  have r3 := round_eq 26#32 6#32 (by decide) (by decide) (binary_eq c13) (nullary_eq c14) (unary_eq c15) (binary_eq c16) (nullary_eq c17) (unary_eq c18) (binary_eq c19) (binary_eq c20) (binary_eq c21) i
  have r4 := round_eq 6#32 26#32 (by decide) (by decide) (binary_eq c22) (nullary_eq c23) (unary_eq c24) (binary_eq c25) (nullary_eq c26) (unary_eq c27) (binary_eq c28) (binary_eq c29) (binary_eq c30) i
  exact r4.trans (congrArg (mix 6#32 26#32) (r3.trans (congrArg (mix 26#32 6#32) (r2.trans (congrArg (mix 15#32 17#32) r1)))))

/-- The fourth four. -/
theorem rounds3 (h2 : Eqs W (part2 (F := Ideal)).1) (h3 : Eqs W (part3 (F := Ideal)).1) (i : SR.Idx) :
    ((W main_v141 : IVec SR 32) i, (W main_v147 : IVec SR 32) i) = mixB ((W main_v115 : IVec SR 32) i, (W main_v119 : IVec SR 32) i) := by
  unfold part2 at h2
  unfold part3 at h3
  obtain ⟨c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, -⟩ := h2
  obtain ⟨d0, d1, d2, d3, d4, d5, d6, d7, d8, d9, d10, d11, d12, d13, d14, d15, d16, d17, d18, d19, d20, d21, d22, d23, d24, d25, d26, d27, d28, d29, d30, d31, d32, d33, d34, d35, d36, d37, d38, d39, d40, d41, d42, d43, d44, d45, d46, d47, d48, d49, d50, d51, d52, d53, d54, d55, d56, d57, d58, d59, -⟩ := h3
  have r1 := round_eq 17#32 15#32 (by decide) (by decide) (binary_eq c40) (nullary_eq c41) (unary_eq c42) (binary_eq c43) (nullary_eq c44) (unary_eq c45) (binary_eq c46) (binary_eq c47) (binary_eq c48) i
  have r2 := round_eq 29#32 3#32 (by decide) (by decide) (binary_eq c49) (nullary_eq c50) (unary_eq c51) (binary_eq c52) (nullary_eq c53) (unary_eq c54) (binary_eq c55) (binary_eq c56) (binary_eq c57) i
  have r3 := round_eq 16#32 16#32 (by decide) (by decide) (binary_eq c58) (nullary_eq c59) (unary_eq d0) (binary_eq d1) (nullary_eq d2) (unary_eq d3) (binary_eq d4) (binary_eq d5) (binary_eq d6) i
  have r4 := round_eq 24#32 8#32 (by decide) (by decide) (binary_eq d7) (nullary_eq d8) (unary_eq d9) (binary_eq d10) (nullary_eq d11) (unary_eq d12) (binary_eq d13) (binary_eq d14) (binary_eq d15) i
  exact r4.trans (congrArg (mix 24#32 8#32) (r3.trans (congrArg (mix 16#32 16#32) (r2.trans (congrArg (mix 29#32 3#32) r1)))))

/-- The last four. -/
theorem rounds4 (h3 : Eqs W (part3 (F := Ideal)).1) (i : SR.Idx) :
    ((W main_v175 : IVec SR 32) i, (W main_v181 : IVec SR 32) i) = mixA ((W main_v149 : IVec SR 32) i, (W main_v153 : IVec SR 32) i) := by
  unfold part3 at h3
  obtain ⟨d0, d1, d2, d3, d4, d5, d6, d7, d8, d9, d10, d11, d12, d13, d14, d15, d16, d17, d18, d19, d20, d21, d22, d23, d24, d25, d26, d27, d28, d29, d30, d31, d32, d33, d34, d35, d36, d37, d38, d39, d40, d41, d42, d43, d44, d45, d46, d47, d48, d49, d50, d51, d52, d53, d54, d55, d56, d57, d58, d59, -⟩ := h3
  have r1 := round_eq 13#32 19#32 (by decide) (by decide) (binary_eq d24) (nullary_eq d25) (unary_eq d26) (binary_eq d27) (nullary_eq d28) (unary_eq d29) (binary_eq d30) (binary_eq d31) (binary_eq d32) i
  have r2 := round_eq 15#32 17#32 (by decide) (by decide) (binary_eq d33) (nullary_eq d34) (unary_eq d35) (binary_eq d36) (nullary_eq d37) (unary_eq d38) (binary_eq d39) (binary_eq d40) (binary_eq d41) i
  have r3 := round_eq 26#32 6#32 (by decide) (by decide) (binary_eq d42) (nullary_eq d43) (unary_eq d44) (binary_eq d45) (nullary_eq d46) (unary_eq d47) (binary_eq d48) (binary_eq d49) (binary_eq d50) i
  have r4 := round_eq 6#32 26#32 (by decide) (by decide) (binary_eq d51) (nullary_eq d52) (unary_eq d53) (binary_eq d54) (nullary_eq d55) (unary_eq d56) (binary_eq d57) (binary_eq d58) (binary_eq d59) i
  exact r4.trans (congrArg (mix 6#32 26#32) (r3.trans (congrArg (mix 26#32 6#32) (r2.trans (congrArg (mix 15#32 17#32) r1)))))

/-- The first key words added. -/
theorem key0 (h : (W main_v13 : IVec S_ 32) = constantI S_ 32 466689008#32) (h1 : Eqs W (part1 (F := Ideal)).1) (i : SR.Idx) :
    ((W main_v47 : IVec SR 32) i, (W main_v51 : IVec SR 32) i) = key 42#32 466689009#32 ((W main_v39 : IVec SR 32) i, (W main_v45 : IVec SR 32) i) := by
  unfold part1 at h1
  obtain ⟨b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, -⟩ := h1
  exact keyed (plus_eq (nullary_eq b3) (unary_eq b4) (binary_eq b5) i) (plus_eq h (unary_eq b6) (binary_eq b7) i) (plus_eq (nullary_eq b8) (unary_eq b9) (binary_eq b10) i) (by decide)

/-- The second. -/
theorem key1 (h : (W main_v13 : IVec S_ 32) = constantI S_ 32 466689008#32) (h1 : Eqs W (part1 (F := Ideal)).1) (i : SR.Idx) :
    ((W main_v81 : IVec SR 32) i, (W main_v85 : IVec SR 32) i) = key 466689008#32 2#32 ((W main_v73 : IVec SR 32) i, (W main_v79 : IVec SR 32) i) := by
  unfold part1 at h1
  obtain ⟨b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, -⟩ := h1
  exact keyed (plus_eq h (unary_eq b47) (binary_eq b48) i) (plus_eq (nullary_eq b49) (unary_eq b50) (binary_eq b51) i) (plus_eq (nullary_eq b52) (unary_eq b53) (binary_eq b54) i) (by decide)

/-- The third. -/
theorem key2 (h2 : Eqs W (part2 (F := Ideal)).1) (i : SR.Idx) :
    ((W main_v115 : IVec SR 32) i, (W main_v119 : IVec SR 32) i) = key 0#32 45#32 ((W main_v107 : IVec SR 32) i, (W main_v113 : IVec SR 32) i) := by
  unfold part2 at h2
  obtain ⟨c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, -⟩ := h2
  exact keyed (plus_eq (nullary_eq c31) (unary_eq c32) (binary_eq c33) i) (plus_eq (nullary_eq c34) (unary_eq c35) (binary_eq c36) i) (plus_eq (nullary_eq c37) (unary_eq c38) (binary_eq c39) i) (by decide)

/-- The fourth. -/
theorem key3 (h : (W main_v13 : IVec S_ 32) = constantI S_ 32 466689008#32) (h3 : Eqs W (part3 (F := Ideal)).1) (i : SR.Idx) :
    ((W main_v149 : IVec SR 32) i, (W main_v153 : IVec SR 32) i) = key 42#32 466689012#32 ((W main_v141 : IVec SR 32) i, (W main_v147 : IVec SR 32) i) := by
  unfold part3 at h3
  obtain ⟨d0, d1, d2, d3, d4, d5, d6, d7, d8, d9, d10, d11, d12, d13, d14, d15, d16, d17, d18, d19, d20, d21, d22, d23, d24, d25, d26, d27, d28, d29, d30, d31, d32, d33, d34, d35, d36, d37, d38, d39, d40, d41, d42, d43, d44, d45, d46, d47, d48, d49, d50, d51, d52, d53, d54, d55, d56, d57, d58, d59, -⟩ := h3
  exact keyed (plus_eq (nullary_eq d16) (unary_eq d17) (binary_eq d18) i) (plus_eq h (unary_eq d19) (binary_eq d20) i) (plus_eq (nullary_eq d21) (unary_eq d22) (binary_eq d23) i) (by decide)

/-- The last. -/
theorem key4 (h : (W main_v13 : IVec S_ 32) = constantI S_ 32 466689008#32) (h4 : Eqs W (part4 (F := Ideal)).1) (i : SR.Idx) :
    ((W main_v183 : IVec SR 32) i, (W main_v187 : IVec SR 32) i) = key 466689008#32 5#32 ((W main_v175 : IVec SR 32) i, (W main_v181 : IVec SR 32) i) := by
  unfold part4 at h4
  obtain ⟨e0, e1, e2, e3, e4, e5, e6, e7, e8, e9, e10, e11, e12, e13, e14, e15, e16, e17, e18, e19, e20, e21, e22, e23, e24, e25, e26, e27, e28, e29, e30, e31, -⟩ := h4
  exact keyed (plus_eq h (unary_eq e0) (binary_eq e1) i) (plus_eq (nullary_eq e2) (unary_eq e3) (binary_eq e4) i) (plus_eq (nullary_eq e5) (unary_eq e6) (binary_eq e7) i) (by decide)

/-- The counter's words as one number. -/
theorem counter_nat (a b c : Nat) :
    (BitVec.ofNat 32 a * 8#32 + BitVec.ofNat 32 b) * 100000#32 + BitVec.ofNat 32 c + 42#32 = BitVec.ofNat 32 ((8 * a + b) * 100000 + c + 42) := by
  rw [BitVec.ofNat_add, BitVec.ofNat_add, BitVec.ofNat_mul, BitVec.ofNat_add, BitVec.ofNat_mul, BitVec.mul_comm 8#32]

/-- The counter of an element, 42 (the key's second word) added, and a first word of zero. -/
theorem counter (h0 : Eqs W (part0 (F := Ideal)).1) (i : SR.Idx) :
    ((W main_v15 : IVec SR 32) i, (W main_v17 : IVec SR 32) i) = (0#32, BitVec.ofNat 32 ((8 * (i 0).val + (i 1).val) * 100000 + (i 2).val + 42)) := by
  unfold part0 at h0
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, -⟩ := h0
  have x0 := plus_eq (nullary_eq a21) (unary_eq a22) (binary_eq a23) i
  have y0 : (W main_v11 : IVec SR 32) i = 0#32 := by rw [unary_eq a15, nullary_eq a14]; rfl
  have x1 := plus_eq (nullary_eq a24) (unary_eq a25) (binary_eq a26) i
  have y1 : (W main_v10 : IVec SR 32) i = (BitVec.ofNat 32 (i 0).val * 8#32 + BitVec.ofNat 32 (i 1).val) * 100000#32 + BitVec.ofNat 32 (i 2).val := by
    rw [binary_eq a13, binary_eq a12, binary_eq a9, binary_eq a8, unary_eq a7, nullary_eq a6, unary_eq a11, nullary_eq a10, nullary_eq a3, nullary_eq a4, nullary_eq a5]
    rfl
  refine Prod.ext (x0.trans (by rw [y0]; exact BitVec.add_zero _)) (x1.trans ?_)
  rw [y1]
  exact counter_nat _ _ _

/-- A quotient by the constant one. -/
theorem div_one_bits (x : EReal) : Ideal.div x (Ideal.ofBits .f32 0x3F800000#32) = x := by
  rw [Ideal.ofBits_one_f32, Ideal.div, if_neg one_ne_zero, inv_one, mul_one]

/-- The score of an element: the noise of its hash plus the logit. -/
theorem score_eq (h0 : Eqs W (part0 (F := Ideal)).1) (h1 : Eqs W (part1 (F := Ideal)).1) (h2 : Eqs W (part2 (F := Ideal)).1)
    (h3 : Eqs W (part3 (F := Ideal)).1) (h4 : Eqs W (part4 (F := Ideal)).1) (i : SR.Idx) :
    (W main_v202 : FVec Ideal SR .f32) i
      = noise (threefry (BitVec.ofNat 32 ((8 * (i 0).val + (i 1).val) * 100000 + (i 2).val + 42))) + (W main_arg0 : FVec Ideal SR .f32) i := by
  have ht := third h0
  have s0 := (rounds0 h0 h1 i).trans (congrArg mixA (counter h0 i))
  have s1 := (rounds1 h1 i).trans (congrArg mixB ((key0 ht h1 i).trans (congrArg (key 42#32 466689009#32) s0)))
  have s2 := (rounds2 h1 h2 i).trans (congrArg mixA ((key1 ht h1 i).trans (congrArg (key 466689008#32 2#32) s1)))
  have s3 := (rounds3 h2 h3 i).trans (congrArg mixB ((key2 h2 i).trans (congrArg (key 0#32 45#32) s2)))
  have s4 := (rounds4 h3 i).trans (congrArg mixA ((key3 ht h3 i).trans (congrArg (key 42#32 466689012#32) s3)))
  have s5 := (key4 ht h4 i).trans (congrArg (key 466689008#32 5#32) s4)
  have s6 : xori (W main_v183 : IVec SR 32) (W main_v187 : IVec SR 32) i = threefry (BitVec.ofNat 32 ((8 * (i 0).val + (i 1).val) * 100000 + (i 2).val + 42)) :=
    congrArg (fun s : BitVec 32 × BitVec 32 => s.1 ^^^ s.2) s5
  have hlogit : (W main_v1 : FVec Ideal SR .f32) i = (W main_arg0 : FVec Ideal SR .f32) i := by
    unfold part0 at h0
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, -⟩ := h0
    rw [binary_eq a2, unary_eq a1, nullary_eq a0]
    exact div_one_bits _
  unfold part4 call at h4
  obtain ⟨e0, e1, e2, e3, e4, e5, e6, e7, e8, e9, e10, e11, e12, e13, e14, e15, e16, e17, e18, e19, e20, e21, e22, e23, e24, e25, e26, e27, e28, e29, e30, e31, -⟩ := h4
  rw [← s6, ← hlogit]
  rw [binary_eq e26, unary_eq e25, unary_eq e24, unary_eq e23, unary_eq e22, binary_eq e21, unary_eq e20, nullary_eq e19, binary_eq e18, unary_eq e17, nullary_eq e16,
    unary_eq e15, binary_eq e14, unary_eq e13, nullary_eq e12, binary_eq e11, unary_eq e10, nullary_eq e9, binary_eq e8]
  show -Ideal.log (-Ideal.log (max (Ideal.ofBits .f32 (IntOp.shrui _ _ 9#32 ||| 1065353216#32) - Ideal.ofBits .f32 0x3F800000#32) (Ideal.ofBits .f32 0x00800000#32))) + _ = _
  rw [shr_lt _ _ _ (by decide)]
  rfl

end Cert.ReferenceIdeal.Line

end
-- ==== Proof.RefPick.lean ====
/- The reference's arg-max: the token of a row is the first column of its greatest score. -/
module

public import proofs.«01_k».proof.Proof.RefDraw
public import proofs.«01_k».proof.Proof.First

@[expose] public section

set_option maxRecDepth 65536
set_option maxHeartbeats 4000000

noncomputable section

namespace Cert.ReferenceIdeal.Line

open Idealize.ShloMosaic Idealize.ShloMosaic.TcCoe Idealize.ShloMosaic.StableHlo Idealize.SL.Sem Cert.ReferenceIdeal Cert.Sampler

/-- Column `k` of row `i` of the scores. -/
def cell (i : S64x8.Idx) (k : Nat) (hk : k < 100000) : SR.Idx := fun a => match a with
  | ⟨0, _⟩ => i 0
  | ⟨1, _⟩ => i 1
  | ⟨2, _⟩ => (⟨k, hk⟩ : Fin 100000)

/-- A row of scores by column number. -/
def rowOf (z : FVec Ideal SR .f32) (i : S64x8.Idx) (k : Nat) : EReal := if h : k < 100000 then z (cell i k h) else ⊥

/-- An index of row `i` is its column's cell. -/
theorem eq_cell (i : S64x8.Idx) (n : SR.Idx) (h : Gen.reducesTo_S64x8x100000_S64x8_d2.drop n = i) : n = cell i (n 2).val (n 2).isLt := by
  subst h
  funext a
  match a with
  | ⟨0, _⟩ => exact Fin.ext (Shape.ReducesTo.drop_apply_val_of_eq Gen.reducesTo_S64x8x100000_S64x8_d2 n 0 0).symm
  | ⟨1, _⟩ => exact Fin.ext (Shape.ReducesTo.drop_apply_val_of_eq Gen.reducesTo_S64x8x100000_S64x8_d2 n 1 1).symm
  | ⟨2, _⟩ => rfl

/-- A cell of row `i` is an index of row `i`. -/
theorem drop_cell (i : S64x8.Idx) (k : Nat) (hk : k < 100000) : Gen.reducesTo_S64x8x100000_S64x8_d2.drop (cell i k hk) = i := by
  funext b
  match b with
  | ⟨0, _⟩ => exact Fin.ext (Shape.ReducesTo.drop_apply_val_of_eq Gen.reducesTo_S64x8x100000_S64x8_d2 (cell i k hk) 0 0)
  | ⟨1, _⟩ => exact Fin.ext (Shape.ReducesTo.drop_apply_val_of_eq Gen.reducesTo_S64x8x100000_S64x8_d2 (cell i k hk) 1 1)

/-- The reducer prefers the greater score, and of equal ones the smaller column. -/
theorem reducer_prefers : Prefers (reducer_argmax_f32_i32 (F := Ideal)) := by
  rintro ⟨x, a⟩ ⟨y, b⟩
  unfold reducer_argmax_f32_i32
  simp only [Ideal.cmpf_def, Ideal.cmp, ne_eq, not_true_eq_false, decide_false]
  rcases lt_trichotomy x y with h | h | h
  · rw [decide_eq_false (not_lt.mpr h.le), decide_eq_false h.ne, if_neg (not_lt.mpr h.le), if_neg h.ne]
    cases hs : a.slt b <;> simp [IntOp.cmpi, IntOp.ori, IntOp.andi, Scalar.select, hs]
  · subst h
    rw [decide_eq_false (lt_irrefl x), decide_eq_true rfl, if_neg (lt_irrefl x), if_pos rfl]
    cases hs : a.slt b <;> simp [IntOp.cmpi, IntOp.ori, IntOp.andi, Scalar.select, hs]
  · rw [decide_eq_true h, decide_eq_false h.ne', if_pos h]
    cases hs : a.slt b <;> simp [IntOp.cmpi, IntOp.ori, IntOp.andi, Scalar.select, hs]

/-- The arg-max of a row is the first column of its greatest score. -/
theorem argmax_first (z : FVec Ideal SR .f32) (i : S64x8.Idx) :
    ∃ k, (Host.argReduce reducer_argmax_f32_i32 z (iotaInDim SR 32 2) (constant S_ .f32 0xFF800000#32) (constantI S_ 32 0#32)
        Gen.reducesTo_S64x8x100000_S64x8_d2 Gen.h_S_ i).2 = BitVec.ofNat 32 k ∧ IsFirst 100000 (rowOf z i) k := by
  rw [Ideal.argReduce_eq_reduce2, Host.reduce2_eq_foldl_fiber]
  have hcell : ∀ k (hk : k < 100000), (z (cell i k hk), iotaInDim SR 32 2 (cell i k hk)) = (rowOf z i k, BitVec.ofNat 32 k) := fun k hk =>
    Prod.ext (by rw [rowOf, dif_pos hk]) rfl
  obtain ⟨k, e, h⟩ := foldl_lead (n := 100000) (by decide) (rowOf z i) reducer_prefers slt_ofNat
    (Host.argReduceFiber z (iotaInDim SR 32 2) Gen.reducesTo_S64x8x100000_S64x8_d2 i) (fun _ => False) ⊥ 0
    ⟨by decide, bot_le, fun _ h => h.elim⟩ (fun p hp => by
      obtain ⟨n, hn, rfl⟩ := List.mem_map.mp hp
      have hd := of_decide_eq_true (List.mem_filter.mp hn).2
      have e := eq_cell i _ hd
      refine ⟨((SR.rowMajor.symm n) 2).val, ((SR.rowMajor.symm n) 2).isLt, ?_⟩
      rw [← hcell _ ((SR.rowMajor.symm n) 2).isLt, ← e])
  refine ⟨k, ?_, h.first fun j hj => .inr ⟨?_, hj⟩⟩
  · have hi : ((constant (F := Ideal) S_ .f32 0xFF800000#32) (Shape.Idx.first Gen.h_S_), (constantI S_ 32 0#32) (Shape.Idx.first Gen.h_S_))
        = ((⊥ : EReal), BitVec.ofNat 32 0) := Prod.ext bot_bits rfl
    rw [hi]; exact e
  · refine List.mem_map.mpr ⟨SR.rowMajor (cell i j hj), List.mem_filter.mpr ⟨List.mem_finRange _, ?_⟩, ?_⟩
    · rw [Equiv.symm_apply_apply]; exact decide_eq_true (drop_cell i j hj)
    · rw [Equiv.symm_apply_apply]; exact hcell j hj

/-- The reference's token of a row is the first column of the row's greatest score. -/
theorem token_first (m : (ℓ : Loc nD τ sig) → Buf (Elt Ideal) ℓ) (c : Dev nD) (g : Nat → Nat → EReal) (i : S64x8.Idx)
    (hg : ∀ k (hk : k < 100000), (m ((c.tc : Thread nD τ).loc main_arg0) : FVec Ideal SR .f32) (cell i k hk) = g (8 * (i 0).val + (i 1).val) k) :
    ∃ k, (final m c (Proc.devRef .tc main_v203) : IVec S64x8 32) i = BitVec.ofNat 32 k ∧ IsFirst 100000 (drawn g (8 * (i 0).val + (i 1).val)) k := by
  have h0 := eqs_of (l := (part0 (F := Ideal)).1) (List.subset_append_left _ _) m c
  have h1 := eqs_of (l := (part1 (F := Ideal)).1) (fun _ h => List.mem_append_right _ (List.mem_append_left _ h)) m c
  have h2 := eqs_of (l := (part2 (F := Ideal)).1) (fun _ h => List.mem_append_right _ (List.mem_append_right _ (List.mem_append_left _ h))) m c
  have h3 := eqs_of (l := (part3 (F := Ideal)).1)
    (fun _ h => List.mem_append_right _ (List.mem_append_right _ (List.mem_append_right _ (List.mem_append_left _ h)))) m c
  have h4 := eqs_of (l := (part4 (F := Ideal)).1)
    (fun _ h => List.mem_append_right _ (List.mem_append_right _ (List.mem_append_right _ (List.mem_append_right _ h)))) m c
  have hz := score_eq h0 h1 h2 h3 h4
  have ha := final_arg m c
  generalize final m c = W at *
  obtain ⟨k, e, h1, h2, h3⟩ := argmax_first (W (Proc.devRef .tc main_v202)) i
  have hrow : ∀ k, k < 100000 → rowOf (W (Proc.devRef .tc main_v202)) i k = drawn g (8 * (i 0).val + (i 1).val) k := fun k hk => by
    rw [rowOf, dif_pos hk, drawn, ← hg k hk]
    exact (hz (cell i k hk)).trans (by rw [ha]; rfl)
  refine ⟨k, ?_, h1, fun j hj => ?_, fun j hj => ?_⟩
  · unfold part4 call at h4
    obtain ⟨e0, e1, e2, e3, e4, e5, e6, e7, e8, e9, e10, e11, e12, e13, e14, e15, e16, e17, e18, e19, e20, e21, e22, e23, e24, e25, e26, e27, e28, e29, e30, e31, -⟩ := h4
    rw [quaternary_eq e31, nullary_eq e27, nullary_eq e28, nullary_eq e29]
    exact e
  · rw [← hrow j hj, ← hrow k h1]; exact h2 j hj
  · rw [← hrow j (hj.trans h1), ← hrow k h1]; exact h3 j hj

end Cert.ReferenceIdeal.Line

end
-- ==== Proof.Agree.lean ====
/- The kernel's tokens are the reference's: both are the first column of the row's greatest score. -/
module

public import proofs.«01_k».proof.Proof.Lane
public import proofs.«01_k».proof.Proof.RefPick

@[expose] public section

set_option maxRecDepth 65536

noncomputable section

namespace Cert.Sampler

open Idealize.ShloMosaic Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- A cell of the reference's scores is the entry the kernel's row and column name. -/
theorem at3_eq (i : ReferenceIdeal.S64x8.Idx) (k : Nat) (hk : k < 100000) (hr : 8 * (i 0).val + (i 1).val < 512) :
    KernelIdeal.Chunk.at3 (8 * (i 0).val + (i 1).val) k hr hk = ReferenceIdeal.Line.cell i k hk := by
  have h1 : (i 1).val < 8 := (i 1).isLt
  funext a
  match a with
  | ⟨0, _⟩ => exact Fin.ext (by show (8 * (i 0).val + (i 1).val) / 8 = (i 0).val; omega)
  | ⟨1, _⟩ => exact Fin.ext (by show (8 * (i 0).val + (i 1).val) % 8 = (i 1).val; omega)
  | ⟨2, _⟩ => rfl

/-- From the same logits, the same tokens. -/
theorem tokens_agree (c : Dev KernelIdeal.nD)
    (hagree : m' ((c.tc : Thread ReferenceIdeal.nD ReferenceIdeal.τ).loc ReferenceIdeal.main_arg0) = m ((c.tc : Thread KernelIdeal.nD KernelIdeal.τ).loc KernelIdeal.main_arg0)) :
    (ReferenceIdeal.Line.final m' c (Proc.devRef .tc ReferenceIdeal.main_v203) : IVec ReferenceIdeal.S64x8 32)
      = shapeCast KernelIdeal.S64x8 (KernelIdeal.Chunk.tokArr m c) KernelIdeal.Gen.shapeCasts_S512x1_S64x8 := by
  funext i
  have h0 : (i 0).val < 64 := (i 0).isLt
  have h1 : (i 1).val < 8 := (i 1).isLt
  have hr : 8 * (i 0).val + (i 1).val < 512 := by omega
  obtain ⟨k, ek, hk⟩ := ReferenceIdeal.Line.token_first m' c (KernelIdeal.Chunk.logits m c) i fun k hk => by
    rw [KernelIdeal.Chunk.logits_eq m c _ k hr hk, at3_eq i k hk hr]
    exact congrFun hagree _
  rw [KernelIdeal.Chunk.token_eq]
  unfold KernelIdeal.Chunk.tokArr KernelIdeal.Chunk.tokens
  obtain ⟨k', ek', hk'⟩ := KernelIdeal.Chunk.winner_first (KernelIdeal.Chunk.logits m c) ((KernelIdeal.Chunk.atRow i 0).val / 32)
    (fun a => match a with
      | ⟨0, _⟩ => (⟨(KernelIdeal.Chunk.atRow i 0).val % 32, Nat.mod_lt _ (by omega)⟩ : Fin 32)
      | ⟨1, _⟩ => (⟨0, by omega⟩ : Fin 1))
  have e : 32 * ((KernelIdeal.Chunk.atRow i 0).val / 32) + (KernelIdeal.Chunk.atRow i 0).val % 32 = 8 * (i 0).val + (i 1).val := by
    show 32 * (((i 0).val * 8 + (i 1).val) / 32) + ((i 0).val * 8 + (i 1).val) % 32 = _
    omega
  have hk'' : IsFirst 100000 (drawn (KernelIdeal.Chunk.logits m c) (8 * (i 0).val + (i 1).val)) k' := e ▸ hk'
  rw [ek, hk.unique hk'']
  exact ek'.symm

end Cert.Sampler

end
-- ==== Proof.lean ====
module

public import proofs.«01_k».proof.Defs
public import proofs.«01_k».proof.Proof.KLaunched
public import proofs.«01_k».proof.Proof.Launched
public import proofs.«01_k».proof.Proof.RefLine
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel and the reference, over the extended reals, end with the same tokens. -/
theorem algebraic : Cert.algebraic_KernelIdeal_ReferenceIdeal (hKernelIdeal := Cert.KernelIdeal.Gen.facts) (hReferenceIdeal := Cert.ReferenceIdeal.Gen.facts) :=
  fun m g m' g' _ hagree =>
    ⟨fun c => shapeCast Cert.KernelIdeal.S64x8 (Cert.KernelIdeal.Chunk.tokArr m c) Cert.KernelIdeal.Gen.shapeCasts_S512x1_S64x8,
      Cert.KernelIdeal.Chunk.run_value m g,
      (θ_run Cert.ReferenceIdeal.defs _ _).mono (fun _ h c =>
        ⟨(h c Cert.ReferenceIdeal.main_v203).trans (Cert.Sampler.tokens_agree m m' c (hagree c)),
          (h c Cert.ReferenceIdeal.main_arg0).trans (Cert.ReferenceIdeal.Line.final_arg m' c)⟩) (Cert.ReferenceIdeal.Line.run m' g')⟩

/-- The certificate. -/
theorem claim : Cert.Claim := ⟨Cert.Kernel.Gen.facts, Cert.KernelIdeal.Gen.facts, Cert.ReferenceIdeal.Gen.facts,
  fun m g _ => Cert.Kernel.Chunk.frame m g, fun m g _ => Cert.KernelIdeal.Chunk.frame m g, fun m g _ => Cert.ReferenceIdeal.Line.frame m g,
  trivial, algebraic⟩

end Cert.Proof

end
